-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S3x2048x3584 : Shape := ⟨3, ![3, 2048, 3584]⟩
abbrev S3584 : Shape := ⟨1, ![3584]⟩
abbrev S2112x3584 : Shape := ⟨2, ![2112, 3584]⟩
abbrev S17x28 : Shape := ⟨2, ![17, 28]⟩
abbrev S1536 : Shape := ⟨1, ![1536]⟩
abbrev S512 : Shape := ⟨1, ![512]⟩
abbrev S_ : Shape := ⟨0, ![]⟩

class Facts : Prop where
  bitsLt_bf16_f32 : FTy.bits .bf16 < FTy.bits .f32
  bcast_S_S3584 : S_.BroadcastsInDim S3584 (![] : Fin 0 → Fin S3584.rank)

variable [Facts]

def fn {F : FTy → Type} [FloatOps F] (main_arg0 : FVec F S3x2048x3584 .bf16) (main_arg1 : FVec F S3584 .bf16) (main_arg2 : FVec F S2112x3584 .fp8e4m3) (main_arg3 : FVec F S17x28 .f32) (main_arg4 : FVec F S1536 .bf16) (main_arg5 : FVec F S512 .bf16) : IVec S3584 1 :=
  let main_v0 : FVec F S3584 .f32 := (extf .f32 · bitsLt_bf16_f32) main_arg1
  let main_v1 : FVec F S3584 .f32 := Host.absf main_v0
  let main_cst : FVec F S_ .f32 := constant S_ .f32 0x7F7F0000#32
  let main_v2 : FVec F S3584 .f32 := broadcastInDim S3584 ![] bcast_S_S3584 main_cst
  let main_v3 : IVec S3584 1 := cmpf .ole main_v1 main_v2
  main_v3
-- ==== Kernel.lean ====
abbrev S3x2048x3584 : Shape := ⟨3, ![3, 2048, 3584]⟩
abbrev S3584 : Shape := ⟨1, ![3584]⟩
abbrev S2112x3584 : Shape := ⟨2, ![2112, 3584]⟩
abbrev S17x28 : Shape := ⟨2, ![17, 28]⟩
abbrev S1536 : Shape := ⟨1, ![1536]⟩
abbrev S512 : Shape := ⟨1, ![512]⟩
abbrev S6144x3584 : Shape := ⟨2, ![6144, 3584]⟩
abbrev S1x3584 : Shape := ⟨2, ![1, 3584]⟩
abbrev S1x1536 : Shape := ⟨2, ![1, 1536]⟩
abbrev S1x512 : Shape := ⟨2, ![1, 512]⟩
abbrev S6144x1536 : Shape := ⟨2, ![6144, 1536]⟩
abbrev S6144x512 : Shape := ⟨2, ![6144, 512]⟩
abbrev S6144x64 : Shape := ⟨2, ![6144, 64]⟩
abbrev S6144x28 : Shape := ⟨2, ![6144, 28]⟩
abbrev S512x3584 : Shape := ⟨2, ![512, 3584]⟩
abbrev S512x1536 : Shape := ⟨2, ![512, 1536]⟩
abbrev S512x512 : Shape := ⟨2, ![512, 512]⟩
abbrev S512x64 : Shape := ⟨2, ![512, 64]⟩
abbrev S512x28 : Shape := ⟨2, ![512, 28]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x256 : Shape := ⟨2, ![32, 256]⟩
abbrev S1x1 : Shape := ⟨2, ![1, 1]⟩
abbrev S128x128 : Shape := ⟨2, ![128, 128]⟩
abbrev S64x128 : Shape := ⟨2, ![64, 128]⟩
abbrev S512x1 : Shape := ⟨2, ![512, 1]⟩
abbrev S64x3584 : Shape := ⟨2, ![64, 3584]⟩

abbrev nBuf : Space → Nat
  | .hbm => 15
  | .vmem => 21
  | .smem => 0
  | _ => 0

abbrev bufTy : (tb : Table) → Fin (tcTables nBuf tb) → BufTy
  | .hbm, ⟨0, _⟩ => ⟨S3x2048x3584, .bf16⟩
  | .hbm, ⟨1, _⟩ => ⟨S3584, .bf16⟩
  | .hbm, ⟨2, _⟩ => ⟨S2112x3584, .fp8e4m3⟩
  | .hbm, ⟨3, _⟩ => ⟨S17x28, .f32⟩
  | .hbm, ⟨4, _⟩ => ⟨S1536, .bf16⟩
  | .hbm, ⟨5, _⟩ => ⟨S512, .bf16⟩
  | .hbm, ⟨6, _⟩ => ⟨S6144x3584, .bf16⟩
  | .hbm, ⟨7, _⟩ => ⟨S1x3584, .bf16⟩
  | .hbm, ⟨8, _⟩ => ⟨S1x1536, .bf16⟩
  | .hbm, ⟨9, _⟩ => ⟨S1x512, .bf16⟩
  | .hbm, ⟨10, _⟩ => ⟨S6144x1536, .bf16⟩
  | .hbm, ⟨11, _⟩ => ⟨S6144x512, .bf16⟩
  | .hbm, ⟨12, _⟩ => ⟨S6144x64, .bf16⟩
  | .hbm, ⟨13, _⟩ => ⟨S6144x3584, .fp8e4m3⟩
  | .hbm, ⟨14, _⟩ => ⟨S6144x28, .f32⟩
  | .local _ .vmem, ⟨0, _⟩ => ⟨S512x3584, .bf16⟩
  | .local _ .vmem, ⟨1, _⟩ => ⟨S512x3584, .bf16⟩
  | .local _ .vmem, ⟨2, _⟩ => ⟨S1x3584, .bf16⟩
  | .local _ .vmem, ⟨3, _⟩ => ⟨S2112x3584, .fp8e4m3⟩
  | .local _ .vmem, ⟨4, _⟩ => ⟨S17x28, .f32⟩
  | .local _ .vmem, ⟨5, _⟩ => ⟨S1x1536, .bf16⟩
  | .local _ .vmem, ⟨6, _⟩ => ⟨S1x512, .bf16⟩
  | .local _ .vmem, ⟨7, _⟩ => ⟨S512x1536, .bf16⟩
  | .local _ .vmem, ⟨8, _⟩ => ⟨S512x1536, .bf16⟩
  | .local _ .vmem, ⟨9, _⟩ => ⟨S512x512, .bf16⟩
  | .local _ .vmem, ⟨10, _⟩ => ⟨S512x512, .bf16⟩
  | .local _ .vmem, ⟨11, _⟩ => ⟨S512x64, .bf16⟩
  | .local _ .vmem, ⟨12, _⟩ => ⟨S512x64, .bf16⟩
  | .local _ .vmem, ⟨13, _⟩ => ⟨S512x3584, .fp8e4m3⟩
  | .local _ .vmem, ⟨14, _⟩ => ⟨S512x3584, .fp8e4m3⟩
  | .local _ .vmem, ⟨15, _⟩ => ⟨S512x28, .f32⟩
  | .local _ .vmem, ⟨16, _⟩ => ⟨S512x28, .f32⟩
  | .local _ .vmem, ⟨17, _⟩ => ⟨S512x3584, .bf16⟩
  | .local _ .vmem, ⟨18, _⟩ => ⟨S512x3584, .bf16⟩
  | .local _ .vmem, ⟨19, _⟩ => ⟨S2112x3584, .bf16⟩
  | .local _ .vmem, ⟨20, _⟩ => ⟨S512x1536, .f32⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c16_i32 : BitVec 32 := 16#32
  let v40 : BitVec 32 := Scalar.addi c0_i32_20 c16_i32
  let c1_i32_21 : BitVec 32 := 1#32
  ⟨c0_i32_20, v40, c1_i32_21⟩
def k0_mult1 (k0_t1 : Fin k0_t1_loop.trips) : BitVec 32 :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  v296
def k0_off1 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v299 : Index := Scalar.indexCast v297
  let c0_142 : Index := 0#32
  ![v299.toNat, 0]
def k0_off2 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v305 : Index := Scalar.indexCast v297
  let c128_143 : Index := 128#32
  ![v305.toNat, 128]
def k0_off3 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v311 : Index := Scalar.indexCast v297
  let c256_144 : Index := 256#32
  ![v311.toNat, 256]
def k0_off4 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v317 : Index := Scalar.indexCast v297
  let c384_145 : Index := 384#32
  ![v317.toNat, 384]
def k0_off5 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v323 : Index := Scalar.indexCast v297
  let c512_146 : Index := 512#32
  ![v323.toNat, 512]
def k0_off6 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v329 : Index := Scalar.indexCast v297
  let c640_147 : Index := 640#32
  ![v329.toNat, 640]
def k0_off7 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v335 : Index := Scalar.indexCast v297
  let c768_148 : Index := 768#32
  ![v335.toNat, 768]
def k0_off8 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v341 : Index := Scalar.indexCast v297
  let c896_149 : Index := 896#32
  ![v341.toNat, 896]
def k0_off9 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v347 : Index := Scalar.indexCast v297
  let c1024_150 : Index := 1024#32
  ![v347.toNat, 1024]
def k0_off10 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v353 : Index := Scalar.indexCast v297
  let c1152_151 : Index := 1152#32
  ![v353.toNat, 1152]
def k0_off11 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v359 : Index := Scalar.indexCast v297
  let c1280_152 : Index := 1280#32
  ![v359.toNat, 1280]
def k0_off12 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v365 : Index := Scalar.indexCast v297
  let c1408_153 : Index := 1408#32
  ![v365.toNat, 1408]
def k0_off13 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v371 : Index := Scalar.indexCast v297
  let c1536_154 : Index := 1536#32
  ![v371.toNat, 1536]
def k0_off14 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v377 : Index := Scalar.indexCast v297
  let c1664_155 : Index := 1664#32
  ![v377.toNat, 1664]
def k0_off15 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v383 : Index := Scalar.indexCast v297
  let c1792_156 : Index := 1792#32
  ![v383.toNat, 1792]
def k0_off16 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v389 : Index := Scalar.indexCast v297
  let c1920_157 : Index := 1920#32
  ![v389.toNat, 1920]
def k0_off17 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v395 : Index := Scalar.indexCast v297
  let c2048_158 : Index := 2048#32
  ![v395.toNat, 2048]
def k0_off18 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v401 : Index := Scalar.indexCast v297
  let c2176_159 : Index := 2176#32
  ![v401.toNat, 2176]
def k0_off19 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v407 : Index := Scalar.indexCast v297
  let c2304_160 : Index := 2304#32
  ![v407.toNat, 2304]
def k0_off20 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v413 : Index := Scalar.indexCast v297
  let c2432_161 : Index := 2432#32
  ![v413.toNat, 2432]
def k0_off21 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v419 : Index := Scalar.indexCast v297
  let c2560_162 : Index := 2560#32
  ![v419.toNat, 2560]
def k0_off22 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v425 : Index := Scalar.indexCast v297
  let c2688_163 : Index := 2688#32
  ![v425.toNat, 2688]
def k0_off23 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v431 : Index := Scalar.indexCast v297
  let c2816_164 : Index := 2816#32
  ![v431.toNat, 2816]
def k0_off24 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v437 : Index := Scalar.indexCast v297
  let c2944_165 : Index := 2944#32
  ![v437.toNat, 2944]
def k0_off25 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v443 : Index := Scalar.indexCast v297
  let c3072_166 : Index := 3072#32
  ![v443.toNat, 3072]
def k0_off26 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v449 : Index := Scalar.indexCast v297
  let c3200_167 : Index := 3200#32
  ![v449.toNat, 3200]
def k0_off27 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v455 : Index := Scalar.indexCast v297
  let c3328_168 : Index := 3328#32
  ![v455.toNat, 3328]
def k0_off28 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v461 : Index := Scalar.indexCast v297
  let c3456_169 : Index := 3456#32
  ![v461.toNat, 3456]
def k0_off29 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v526 : Index := Scalar.indexCast v297
  let c0_186 : Index := 0#32
  ![v526.toNat, 0]
def k0_off30 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v588 : Index := Scalar.indexCast v297
  let c1_204 : Index := 1#32
  ![v588.toNat, 1]
def k0_off31 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v650 : Index := Scalar.indexCast v297
  let c2_222 : Index := 2#32
  ![v650.toNat, 2]
def k0_off32 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v712 : Index := Scalar.indexCast v297
  let c3_240 : Index := 3#32
  ![v712.toNat, 3]
def k0_off33 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v774 : Index := Scalar.indexCast v297
  let c4_258 : Index := 4#32
  ![v774.toNat, 4]
def k0_off34 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v836 : Index := Scalar.indexCast v297
  let c5_276 : Index := 5#32
  ![v836.toNat, 5]
def k0_off35 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v898 : Index := Scalar.indexCast v297
  let c6_294 : Index := 6#32
  ![v898.toNat, 6]
def k0_off36 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v960 : Index := Scalar.indexCast v297
  let c7_312 : Index := 7#32
  ![v960.toNat, 7]
def k0_off37 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1022 : Index := Scalar.indexCast v297
  let c8_330 : Index := 8#32
  ![v1022.toNat, 8]
def k0_off38 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1084 : Index := Scalar.indexCast v297
  let c9_348 : Index := 9#32
  ![v1084.toNat, 9]
def k0_off39 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1146 : Index := Scalar.indexCast v297
  let c10_366 : Index := 10#32
  ![v1146.toNat, 10]
def k0_off40 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1208 : Index := Scalar.indexCast v297
  let c11_384 : Index := 11#32
  ![v1208.toNat, 11]
def k0_off41 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1270 : Index := Scalar.indexCast v297
  let c12_402 : Index := 12#32
  ![v1270.toNat, 12]
def k0_off42 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1332 : Index := Scalar.indexCast v297
  let c13_420 : Index := 13#32
  ![v1332.toNat, 13]
def k0_off43 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1394 : Index := Scalar.indexCast v297
  let c14_438 : Index := 14#32
  ![v1394.toNat, 14]
def k0_off44 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1456 : Index := Scalar.indexCast v297
  let c15_456 : Index := 15#32
  ![v1456.toNat, 15]
def k0_off45 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1518 : Index := Scalar.indexCast v297
  let c16_474 : Index := 16#32
  ![v1518.toNat, 16]
def k0_off46 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1580 : Index := Scalar.indexCast v297
  let c17_492 : Index := 17#32
  ![v1580.toNat, 17]
def k0_off47 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1642 : Index := Scalar.indexCast v297
  let c18_510 : Index := 18#32
  ![v1642.toNat, 18]
def k0_off48 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1704 : Index := Scalar.indexCast v297
  let c19_528 : Index := 19#32
  ![v1704.toNat, 19]
def k0_off49 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1766 : Index := Scalar.indexCast v297
  let c20_546 : Index := 20#32
  ![v1766.toNat, 20]
def k0_off50 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1828 : Index := Scalar.indexCast v297
  let c21_564 : Index := 21#32
  ![v1828.toNat, 21]
def k0_off51 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1890 : Index := Scalar.indexCast v297
  let c22_582 : Index := 22#32
  ![v1890.toNat, 22]
def k0_off52 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v1952 : Index := Scalar.indexCast v297
  let c23_600 : Index := 23#32
  ![v1952.toNat, 23]
def k0_off53 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v2014 : Index := Scalar.indexCast v297
  let c24_618 : Index := 24#32
  ![v2014.toNat, 24]
def k0_off54 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v2076 : Index := Scalar.indexCast v297
  let c25_636 : Index := 25#32
  ![v2076.toNat, 25]
def k0_off55 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v2138 : Index := Scalar.indexCast v297
  let c26_654 : Index := 26#32
  ![v2138.toNat, 26]
def k0_off56 (k0_t1 : Fin k0_t1_loop.trips) : Fin 2 → Nat :=
  let c0_i32_141 : BitVec 32 := 0#32
  let c0_i32_20 : BitVec 32 := 0#32
  let c1_i32_21 : BitVec 32 := 1#32
  let arg16 : BitVec 32 := Scf.iv c0_i32_20 c1_i32_21 k0_t1
  let c1_i32_140 : BitVec 32 := 1#32
  let v294 : BitVec 32 := Scalar.muli arg16 c1_i32_140
  let v295 : BitVec 32 := Scalar.addi c0_i32_141 v294
  let c32_i32 : BitVec 32 := 32#32
  let v296 : BitVec 32 := Scalar.muli v295 c32_i32
  let v297 : BitVec 32 := v296
  let v2200 : Index := Scalar.indexCast v297
  let c27_672 : Index := 27#32
  ![v2200.toNat, 27]
@[reducible] def k0_t2_loop : Scf.Loop 32 :=
  let c0_i32_23 : BitVec 32 := 0#32
  let c16_i32_24 : BitVec 32 := 16#32
  let v41 : BitVec 32 := Scalar.addi c0_i32_23 c16_i32_24
  let c1_i32_25 : BitVec 32 := 1#32
  ⟨c0_i32_23, v41, c1_i32_25⟩
def k0_mult2 (k0_t2 : Fin k0_t2_loop.trips) : BitVec 32 :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  v296
def k0_off57 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v298 : Index := Scalar.indexCast v295
  let c0_142 : Index := 0#32
  ![v298.toNat, 0]
def k0_off58 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v301 : Index := Scalar.indexCast v297
  let c0_143 : Index := 0#32
  ![v301.toNat, 0]
def k0_off59 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v310 : Index := Scalar.indexCast v295
  let c1_145 : Index := 1#32
  ![v310.toNat, 1]
def k0_off60 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v313 : Index := Scalar.indexCast v297
  let c128_146 : Index := 128#32
  ![v313.toNat, 128]
def k0_off61 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v322 : Index := Scalar.indexCast v295
  let c2_148 : Index := 2#32
  ![v322.toNat, 2]
def k0_off62 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v325 : Index := Scalar.indexCast v297
  let c256_149 : Index := 256#32
  ![v325.toNat, 256]
def k0_off63 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v334 : Index := Scalar.indexCast v295
  let c3_151 : Index := 3#32
  ![v334.toNat, 3]
def k0_off64 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v337 : Index := Scalar.indexCast v297
  let c384_152 : Index := 384#32
  ![v337.toNat, 384]
def k0_off65 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v346 : Index := Scalar.indexCast v295
  let c4_154 : Index := 4#32
  ![v346.toNat, 4]
def k0_off66 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v349 : Index := Scalar.indexCast v297
  let c512_155 : Index := 512#32
  ![v349.toNat, 512]
def k0_off67 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v358 : Index := Scalar.indexCast v295
  let c5_157 : Index := 5#32
  ![v358.toNat, 5]
def k0_off68 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v361 : Index := Scalar.indexCast v297
  let c640_158 : Index := 640#32
  ![v361.toNat, 640]
def k0_off69 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v370 : Index := Scalar.indexCast v295
  let c6_160 : Index := 6#32
  ![v370.toNat, 6]
def k0_off70 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v373 : Index := Scalar.indexCast v297
  let c768_161 : Index := 768#32
  ![v373.toNat, 768]
def k0_off71 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v382 : Index := Scalar.indexCast v295
  let c7_163 : Index := 7#32
  ![v382.toNat, 7]
def k0_off72 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v385 : Index := Scalar.indexCast v297
  let c896_164 : Index := 896#32
  ![v385.toNat, 896]
def k0_off73 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v394 : Index := Scalar.indexCast v295
  let c8_166 : Index := 8#32
  ![v394.toNat, 8]
def k0_off74 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v397 : Index := Scalar.indexCast v297
  let c1024_167 : Index := 1024#32
  ![v397.toNat, 1024]
def k0_off75 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v406 : Index := Scalar.indexCast v295
  let c9_169 : Index := 9#32
  ![v406.toNat, 9]
def k0_off76 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v409 : Index := Scalar.indexCast v297
  let c1152_170 : Index := 1152#32
  ![v409.toNat, 1152]
def k0_off77 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v418 : Index := Scalar.indexCast v295
  let c10_172 : Index := 10#32
  ![v418.toNat, 10]
def k0_off78 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v421 : Index := Scalar.indexCast v297
  let c1280_173 : Index := 1280#32
  ![v421.toNat, 1280]
def k0_off79 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v430 : Index := Scalar.indexCast v295
  let c11_175 : Index := 11#32
  ![v430.toNat, 11]
def k0_off80 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v433 : Index := Scalar.indexCast v297
  let c1408_176 : Index := 1408#32
  ![v433.toNat, 1408]
def k0_off81 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v442 : Index := Scalar.indexCast v295
  let c12_178 : Index := 12#32
  ![v442.toNat, 12]
def k0_off82 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v445 : Index := Scalar.indexCast v297
  let c1536_179 : Index := 1536#32
  ![v445.toNat, 1536]
def k0_off83 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v454 : Index := Scalar.indexCast v295
  let c13_181 : Index := 13#32
  ![v454.toNat, 13]
def k0_off84 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v457 : Index := Scalar.indexCast v297
  let c1664_182 : Index := 1664#32
  ![v457.toNat, 1664]
def k0_off85 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v466 : Index := Scalar.indexCast v295
  let c14_184 : Index := 14#32
  ![v466.toNat, 14]
def k0_off86 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v469 : Index := Scalar.indexCast v297
  let c1792_185 : Index := 1792#32
  ![v469.toNat, 1792]
def k0_off87 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v478 : Index := Scalar.indexCast v295
  let c15_187 : Index := 15#32
  ![v478.toNat, 15]
def k0_off88 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v481 : Index := Scalar.indexCast v297
  let c1920_188 : Index := 1920#32
  ![v481.toNat, 1920]
def k0_off89 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v490 : Index := Scalar.indexCast v295
  let c16_190 : Index := 16#32
  ![v490.toNat, 16]
def k0_off90 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v493 : Index := Scalar.indexCast v297
  let c2048_191 : Index := 2048#32
  ![v493.toNat, 2048]
def k0_off91 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v502 : Index := Scalar.indexCast v295
  let c17_193 : Index := 17#32
  ![v502.toNat, 17]
def k0_off92 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v505 : Index := Scalar.indexCast v297
  let c2176_194 : Index := 2176#32
  ![v505.toNat, 2176]
def k0_off93 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v514 : Index := Scalar.indexCast v295
  let c18_196 : Index := 18#32
  ![v514.toNat, 18]
def k0_off94 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v517 : Index := Scalar.indexCast v297
  let c2304_197 : Index := 2304#32
  ![v517.toNat, 2304]
def k0_off95 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v526 : Index := Scalar.indexCast v295
  let c19_199 : Index := 19#32
  ![v526.toNat, 19]
def k0_off96 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v529 : Index := Scalar.indexCast v297
  let c2432_200 : Index := 2432#32
  ![v529.toNat, 2432]
def k0_off97 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v538 : Index := Scalar.indexCast v295
  let c20_202 : Index := 20#32
  ![v538.toNat, 20]
def k0_off98 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v541 : Index := Scalar.indexCast v297
  let c2560_203 : Index := 2560#32
  ![v541.toNat, 2560]
def k0_off99 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v550 : Index := Scalar.indexCast v295
  let c21_205 : Index := 21#32
  ![v550.toNat, 21]
def k0_off100 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v553 : Index := Scalar.indexCast v297
  let c2688_206 : Index := 2688#32
  ![v553.toNat, 2688]
def k0_off101 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v562 : Index := Scalar.indexCast v295
  let c22_208 : Index := 22#32
  ![v562.toNat, 22]
def k0_off102 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v565 : Index := Scalar.indexCast v297
  let c2816_209 : Index := 2816#32
  ![v565.toNat, 2816]
def k0_off103 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v574 : Index := Scalar.indexCast v295
  let c23_211 : Index := 23#32
  ![v574.toNat, 23]
def k0_off104 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v577 : Index := Scalar.indexCast v297
  let c2944_212 : Index := 2944#32
  ![v577.toNat, 2944]
def k0_off105 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v586 : Index := Scalar.indexCast v295
  let c24_214 : Index := 24#32
  ![v586.toNat, 24]
def k0_off106 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v589 : Index := Scalar.indexCast v297
  let c3072_215 : Index := 3072#32
  ![v589.toNat, 3072]
def k0_off107 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v598 : Index := Scalar.indexCast v295
  let c25_217 : Index := 25#32
  ![v598.toNat, 25]
def k0_off108 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v601 : Index := Scalar.indexCast v297
  let c3200_218 : Index := 3200#32
  ![v601.toNat, 3200]
def k0_off109 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v610 : Index := Scalar.indexCast v295
  let c26_220 : Index := 26#32
  ![v610.toNat, 26]
def k0_off110 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v613 : Index := Scalar.indexCast v297
  let c3328_221 : Index := 3328#32
  ![v613.toNat, 3328]
def k0_off111 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let v622 : Index := Scalar.indexCast v295
  let c27_223 : Index := 27#32
  ![v622.toNat, 27]
def k0_off112 (k0_t2 : Fin k0_t2_loop.trips) : Fin 2 → Nat :=
  let c0_i32_141 : BitVec 32 := 0#32
  let c0_i32_23 : BitVec 32 := 0#32
  let c1_i32_25 : BitVec 32 := 1#32
  let arg16 : BitVec 32 := Scf.iv c0_i32_23 c1_i32_25 k0_t2
  let c1_i32_140 : BitVec 32 := 1#32
  let v294 : BitVec 32 := Scalar.muli arg16 c1_i32_140
  let v295 : BitVec 32 := Scalar.addi c0_i32_141 v294
  let c128_i32 : BitVec 32 := 128#32
  let v296 : BitVec 32 := Scalar.muli v295 c128_i32
  let v297 : BitVec 32 := v296
  let v625 : Index := Scalar.indexCast v297
  let c3456_224 : Index := 3456#32
  ![v625.toNat, 3456]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c12_i32 : BitVec 32 := 12#32
  let v4 : BitVec 1 := Scalar.cmpi .slt arg0 c12_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

@[reducible] def k0_t3_loop : Scf.Loop 32 :=
  let c0_i32_20 : BitVec 32 := 0#32
  let c16_i32 : BitVec 32 := 16#32
  let v40 : BitVec 32 := Scalar.addi c0_i32_20 c16_i32
  let c1_i32_21 : BitVec 32 := 1#32
  ⟨c0_i32_20, v40, c1_i32_21⟩
def k0_mult3 (k0_t3 : Fin k0_t3_loop.trips) : BitVec 32 :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  v108
def k0_off113 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v111 : Index := Scalar.indexCast v109
  let c0_63 : Index := 0#32
  ![v111.toNat, 0]
def k0_off114 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v117 : Index := Scalar.indexCast v109
  let c128 : Index := 128#32
  ![v117.toNat, 128]
def k0_off115 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v123 : Index := Scalar.indexCast v109
  let c256 : Index := 256#32
  ![v123.toNat, 256]
def k0_off116 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v129 : Index := Scalar.indexCast v109
  let c384 : Index := 384#32
  ![v129.toNat, 384]
def k0_off117 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v135 : Index := Scalar.indexCast v109
  let c512_64 : Index := 512#32
  ![v135.toNat, 512]
def k0_off118 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v141 : Index := Scalar.indexCast v109
  let c640 : Index := 640#32
  ![v141.toNat, 640]
def k0_off119 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v147 : Index := Scalar.indexCast v109
  let c768 : Index := 768#32
  ![v147.toNat, 768]
def k0_off120 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v153 : Index := Scalar.indexCast v109
  let c896 : Index := 896#32
  ![v153.toNat, 896]
def k0_off121 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v159 : Index := Scalar.indexCast v109
  let c1024_65 : Index := 1024#32
  ![v159.toNat, 1024]
def k0_off122 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v165 : Index := Scalar.indexCast v109
  let c1152 : Index := 1152#32
  ![v165.toNat, 1152]
def k0_off123 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v171 : Index := Scalar.indexCast v109
  let c1280 : Index := 1280#32
  ![v171.toNat, 1280]
def k0_off124 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v177 : Index := Scalar.indexCast v109
  let c1408 : Index := 1408#32
  ![v177.toNat, 1408]
def k0_off125 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v183 : Index := Scalar.indexCast v109
  let c1536_66 : Index := 1536#32
  ![v183.toNat, 1536]
def k0_off126 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v189 : Index := Scalar.indexCast v109
  let c1664 : Index := 1664#32
  ![v189.toNat, 1664]
def k0_off127 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v195 : Index := Scalar.indexCast v109
  let c1792 : Index := 1792#32
  ![v195.toNat, 1792]
def k0_off128 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v201 : Index := Scalar.indexCast v109
  let c1920 : Index := 1920#32
  ![v201.toNat, 1920]
def k0_off129 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v207 : Index := Scalar.indexCast v109
  let c2048_67 : Index := 2048#32
  ![v207.toNat, 2048]
def k0_off130 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v213 : Index := Scalar.indexCast v109
  let c2176 : Index := 2176#32
  ![v213.toNat, 2176]
def k0_off131 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v219 : Index := Scalar.indexCast v109
  let c2304 : Index := 2304#32
  ![v219.toNat, 2304]
def k0_off132 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v225 : Index := Scalar.indexCast v109
  let c2432 : Index := 2432#32
  ![v225.toNat, 2432]
def k0_off133 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v231 : Index := Scalar.indexCast v109
  let c2560 : Index := 2560#32
  ![v231.toNat, 2560]
def k0_off134 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v237 : Index := Scalar.indexCast v109
  let c2688 : Index := 2688#32
  ![v237.toNat, 2688]
def k0_off135 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v243 : Index := Scalar.indexCast v109
  let c2816 : Index := 2816#32
  ![v243.toNat, 2816]
def k0_off136 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v249 : Index := Scalar.indexCast v109
  let c2944 : Index := 2944#32
  ![v249.toNat, 2944]
def k0_off137 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v255 : Index := Scalar.indexCast v109
  let c3072 : Index := 3072#32
  ![v255.toNat, 3072]
def k0_off138 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v261 : Index := Scalar.indexCast v109
  let c3200 : Index := 3200#32
  ![v261.toNat, 3200]
def k0_off139 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v267 : Index := Scalar.indexCast v109
  let c3328 : Index := 3328#32
  ![v267.toNat, 3328]
def k0_off140 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v273 : Index := Scalar.indexCast v109
  let c3456 : Index := 3456#32
  ![v273.toNat, 3456]
def k0_off141 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v338 : Index := Scalar.indexCast v109
  let c0_84 : Index := 0#32
  ![v338.toNat, 0]
def k0_off142 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v400 : Index := Scalar.indexCast v109
  let c1 : Index := 1#32
  ![v400.toNat, 1]
def k0_off143 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v462 : Index := Scalar.indexCast v109
  let c2 : Index := 2#32
  ![v462.toNat, 2]
def k0_off144 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v524 : Index := Scalar.indexCast v109
  let c3 : Index := 3#32
  ![v524.toNat, 3]
def k0_off145 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v586 : Index := Scalar.indexCast v109
  let c4 : Index := 4#32
  ![v586.toNat, 4]
def k0_off146 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v648 : Index := Scalar.indexCast v109
  let c5 : Index := 5#32
  ![v648.toNat, 5]
def k0_off147 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v710 : Index := Scalar.indexCast v109
  let c6 : Index := 6#32
  ![v710.toNat, 6]
def k0_off148 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v772 : Index := Scalar.indexCast v109
  let c7 : Index := 7#32
  ![v772.toNat, 7]
def k0_off149 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v834 : Index := Scalar.indexCast v109
  let c8 : Index := 8#32
  ![v834.toNat, 8]
def k0_off150 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v896 : Index := Scalar.indexCast v109
  let c9 : Index := 9#32
  ![v896.toNat, 9]
def k0_off151 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v958 : Index := Scalar.indexCast v109
  let c10 : Index := 10#32
  ![v958.toNat, 10]
def k0_off152 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1020 : Index := Scalar.indexCast v109
  let c11 : Index := 11#32
  ![v1020.toNat, 11]
def k0_off153 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1082 : Index := Scalar.indexCast v109
  let c12 : Index := 12#32
  ![v1082.toNat, 12]
def k0_off154 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1144 : Index := Scalar.indexCast v109
  let c13 : Index := 13#32
  ![v1144.toNat, 13]
def k0_off155 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1206 : Index := Scalar.indexCast v109
  let c14 : Index := 14#32
  ![v1206.toNat, 14]
def k0_off156 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1268 : Index := Scalar.indexCast v109
  let c15 : Index := 15#32
  ![v1268.toNat, 15]
def k0_off157 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1330 : Index := Scalar.indexCast v109
  let c16 : Index := 16#32
  ![v1330.toNat, 16]
def k0_off158 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1392 : Index := Scalar.indexCast v109
  let c17 : Index := 17#32
  ![v1392.toNat, 17]
def k0_off159 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1454 : Index := Scalar.indexCast v109
  let c18 : Index := 18#32
  ![v1454.toNat, 18]
def k0_off160 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1516 : Index := Scalar.indexCast v109
  let c19 : Index := 19#32
  ![v1516.toNat, 19]
def k0_off161 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1578 : Index := Scalar.indexCast v109
  let c20 : Index := 20#32
  ![v1578.toNat, 20]
def k0_off162 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1640 : Index := Scalar.indexCast v109
  let c21 : Index := 21#32
  ![v1640.toNat, 21]
def k0_off163 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1702 : Index := Scalar.indexCast v109
  let c22 : Index := 22#32
  ![v1702.toNat, 22]
def k0_off164 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1764 : Index := Scalar.indexCast v109
  let c23 : Index := 23#32
  ![v1764.toNat, 23]
def k0_off165 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1826 : Index := Scalar.indexCast v109
  let c24 : Index := 24#32
  ![v1826.toNat, 24]
def k0_off166 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1888 : Index := Scalar.indexCast v109
  let c25 : Index := 25#32
  ![v1888.toNat, 25]
def k0_off167 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1950 : Index := Scalar.indexCast v109
  let c26 : Index := 26#32
  ![v1950.toNat, 26]
def k0_off168 (k0_t3 : Fin k0_t3_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t3
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v2012 : Index := Scalar.indexCast v109
  let c27 : Index := 27#32
  ![v2012.toNat, 27]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c12_i32_9 : BitVec 32 := 12#32
  let v21 : BitVec 1 := Scalar.cmpi .slt arg0 c12_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let v34 : BitVec 1 := Scalar.andi v22 v33
  let v35 : BitVec 32 := Scalar.extui v34
  let c0_i32_17 : BitVec 32 := 0#32
  let v36 : BitVec 1 := Scalar.cmpi .ne v35 c0_i32_17
  v36

@[reducible] def k0_t4_loop : Scf.Loop 32 :=
  let c0_i32_20 : BitVec 32 := 0#32
  let c16_i32 : BitVec 32 := 16#32
  let v40 : BitVec 32 := Scalar.addi c0_i32_20 c16_i32
  let c1_i32_21 : BitVec 32 := 1#32
  ⟨c0_i32_20, v40, c1_i32_21⟩
def k0_mult4 (k0_t4 : Fin k0_t4_loop.trips) : BitVec 32 :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  v108
def k0_off169 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v111 : Index := Scalar.indexCast v109
  let c0_63 : Index := 0#32
  ![v111.toNat, 0]
def k0_off170 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v117 : Index := Scalar.indexCast v109
  let c128 : Index := 128#32
  ![v117.toNat, 128]
def k0_off171 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v123 : Index := Scalar.indexCast v109
  let c256 : Index := 256#32
  ![v123.toNat, 256]
def k0_off172 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v129 : Index := Scalar.indexCast v109
  let c384 : Index := 384#32
  ![v129.toNat, 384]
def k0_off173 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v135 : Index := Scalar.indexCast v109
  let c512_64 : Index := 512#32
  ![v135.toNat, 512]
def k0_off174 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v141 : Index := Scalar.indexCast v109
  let c640 : Index := 640#32
  ![v141.toNat, 640]
def k0_off175 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v147 : Index := Scalar.indexCast v109
  let c768 : Index := 768#32
  ![v147.toNat, 768]
def k0_off176 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v153 : Index := Scalar.indexCast v109
  let c896 : Index := 896#32
  ![v153.toNat, 896]
def k0_off177 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v159 : Index := Scalar.indexCast v109
  let c1024_65 : Index := 1024#32
  ![v159.toNat, 1024]
def k0_off178 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v165 : Index := Scalar.indexCast v109
  let c1152 : Index := 1152#32
  ![v165.toNat, 1152]
def k0_off179 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v171 : Index := Scalar.indexCast v109
  let c1280 : Index := 1280#32
  ![v171.toNat, 1280]
def k0_off180 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v177 : Index := Scalar.indexCast v109
  let c1408 : Index := 1408#32
  ![v177.toNat, 1408]
def k0_off181 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v183 : Index := Scalar.indexCast v109
  let c1536_66 : Index := 1536#32
  ![v183.toNat, 1536]
def k0_off182 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v189 : Index := Scalar.indexCast v109
  let c1664 : Index := 1664#32
  ![v189.toNat, 1664]
def k0_off183 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v195 : Index := Scalar.indexCast v109
  let c1792 : Index := 1792#32
  ![v195.toNat, 1792]
def k0_off184 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v201 : Index := Scalar.indexCast v109
  let c1920 : Index := 1920#32
  ![v201.toNat, 1920]
def k0_off185 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v207 : Index := Scalar.indexCast v109
  let c2048_67 : Index := 2048#32
  ![v207.toNat, 2048]
def k0_off186 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v213 : Index := Scalar.indexCast v109
  let c2176 : Index := 2176#32
  ![v213.toNat, 2176]
def k0_off187 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v219 : Index := Scalar.indexCast v109
  let c2304 : Index := 2304#32
  ![v219.toNat, 2304]
def k0_off188 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v225 : Index := Scalar.indexCast v109
  let c2432 : Index := 2432#32
  ![v225.toNat, 2432]
def k0_off189 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v231 : Index := Scalar.indexCast v109
  let c2560 : Index := 2560#32
  ![v231.toNat, 2560]
def k0_off190 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v237 : Index := Scalar.indexCast v109
  let c2688 : Index := 2688#32
  ![v237.toNat, 2688]
def k0_off191 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v243 : Index := Scalar.indexCast v109
  let c2816 : Index := 2816#32
  ![v243.toNat, 2816]
def k0_off192 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v249 : Index := Scalar.indexCast v109
  let c2944 : Index := 2944#32
  ![v249.toNat, 2944]
def k0_off193 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v255 : Index := Scalar.indexCast v109
  let c3072 : Index := 3072#32
  ![v255.toNat, 3072]
def k0_off194 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v261 : Index := Scalar.indexCast v109
  let c3200 : Index := 3200#32
  ![v261.toNat, 3200]
def k0_off195 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v267 : Index := Scalar.indexCast v109
  let c3328 : Index := 3328#32
  ![v267.toNat, 3328]
def k0_off196 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v273 : Index := Scalar.indexCast v109
  let c3456 : Index := 3456#32
  ![v273.toNat, 3456]
def k0_off197 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v338 : Index := Scalar.indexCast v109
  let c0_84 : Index := 0#32
  ![v338.toNat, 0]
def k0_off198 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v400 : Index := Scalar.indexCast v109
  let c1 : Index := 1#32
  ![v400.toNat, 1]
def k0_off199 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v462 : Index := Scalar.indexCast v109
  let c2 : Index := 2#32
  ![v462.toNat, 2]
def k0_off200 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v524 : Index := Scalar.indexCast v109
  let c3 : Index := 3#32
  ![v524.toNat, 3]
def k0_off201 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v586 : Index := Scalar.indexCast v109
  let c4 : Index := 4#32
  ![v586.toNat, 4]
def k0_off202 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v648 : Index := Scalar.indexCast v109
  let c5 : Index := 5#32
  ![v648.toNat, 5]
def k0_off203 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v710 : Index := Scalar.indexCast v109
  let c6 : Index := 6#32
  ![v710.toNat, 6]
def k0_off204 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v772 : Index := Scalar.indexCast v109
  let c7 : Index := 7#32
  ![v772.toNat, 7]
def k0_off205 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v834 : Index := Scalar.indexCast v109
  let c8 : Index := 8#32
  ![v834.toNat, 8]
def k0_off206 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v896 : Index := Scalar.indexCast v109
  let c9 : Index := 9#32
  ![v896.toNat, 9]
def k0_off207 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v958 : Index := Scalar.indexCast v109
  let c10 : Index := 10#32
  ![v958.toNat, 10]
def k0_off208 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1020 : Index := Scalar.indexCast v109
  let c11 : Index := 11#32
  ![v1020.toNat, 11]
def k0_off209 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1082 : Index := Scalar.indexCast v109
  let c12 : Index := 12#32
  ![v1082.toNat, 12]
def k0_off210 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1144 : Index := Scalar.indexCast v109
  let c13 : Index := 13#32
  ![v1144.toNat, 13]
def k0_off211 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1206 : Index := Scalar.indexCast v109
  let c14 : Index := 14#32
  ![v1206.toNat, 14]
def k0_off212 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1268 : Index := Scalar.indexCast v109
  let c15 : Index := 15#32
  ![v1268.toNat, 15]
def k0_off213 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1330 : Index := Scalar.indexCast v109
  let c16 : Index := 16#32
  ![v1330.toNat, 16]
def k0_off214 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1392 : Index := Scalar.indexCast v109
  let c17 : Index := 17#32
  ![v1392.toNat, 17]
def k0_off215 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1454 : Index := Scalar.indexCast v109
  let c18 : Index := 18#32
  ![v1454.toNat, 18]
def k0_off216 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1516 : Index := Scalar.indexCast v109
  let c19 : Index := 19#32
  ![v1516.toNat, 19]
def k0_off217 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1578 : Index := Scalar.indexCast v109
  let c20 : Index := 20#32
  ![v1578.toNat, 20]
def k0_off218 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1640 : Index := Scalar.indexCast v109
  let c21 : Index := 21#32
  ![v1640.toNat, 21]
def k0_off219 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1702 : Index := Scalar.indexCast v109
  let c22 : Index := 22#32
  ![v1702.toNat, 22]
def k0_off220 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1764 : Index := Scalar.indexCast v109
  let c23 : Index := 23#32
  ![v1764.toNat, 23]
def k0_off221 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1826 : Index := Scalar.indexCast v109
  let c24 : Index := 24#32
  ![v1826.toNat, 24]
def k0_off222 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1888 : Index := Scalar.indexCast v109
  let c25 : Index := 25#32
  ![v1888.toNat, 25]
def k0_off223 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v1950 : Index := Scalar.indexCast v109
  let c26 : Index := 26#32
  ![v1950.toNat, 26]
def k0_off224 (k0_t4 : Fin k0_t4_loop.trips) : Fin 2 → Nat :=
  let c0_i32_61 : BitVec 32 := 0#32
  let c0_i32_20 : BitVec 32 := 0#32
  let c1_i32_21 : BitVec 32 := 1#32
  let arg16 : BitVec 32 := Scf.iv c0_i32_20 c1_i32_21 k0_t4
  let c1_i32_60 : BitVec 32 := 1#32
  let v106 : BitVec 32 := Scalar.muli arg16 c1_i32_60
  let v107 : BitVec 32 := Scalar.addi c0_i32_61 v106
  let c32_i32 : BitVec 32 := 32#32
  let v108 : BitVec 32 := Scalar.muli v107 c32_i32
  let v109 : BitVec 32 := v108
  let v2012 : Index := Scalar.indexCast v109
  let c27 : Index := 27#32
  ![v2012.toNat, 27]
def k0_cond4 (i : grid0.Coords) : BitVec 1 :=
  let arg0 : BitVec 32 := BitVec.ofNat 32 (i 0).val
  let c12_i32_18 : BitVec 32 := 12#32
  let v37 : BitVec 1 := Scalar.cmpi .eq arg0 c12_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2112x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x28 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x2048x3584 : Shape := ⟨3, ![3, 2048, 3584]⟩
abbrev S3584 : Shape := ⟨1, ![3584]⟩
abbrev S2112x3584 : Shape := ⟨2, ![2112, 3584]⟩
abbrev S17x28 : Shape := ⟨2, ![17, 28]⟩
abbrev S1536 : Shape := ⟨1, ![1536]⟩
abbrev S512 : Shape := ⟨1, ![512]⟩
abbrev S17x128x28 : Shape := ⟨3, ![17, 128, 28]⟩
abbrev S2176x28 : Shape := ⟨2, ![2176, 28]⟩
abbrev S2112x28 : Shape := ⟨2, ![2112, 28]⟩
abbrev S2112x28x128 : Shape := ⟨3, ![2112, 28, 128]⟩
abbrev S6144x3584 : Shape := ⟨2, ![6144, 3584]⟩
abbrev S1x3584 : Shape := ⟨2, ![1, 3584]⟩
abbrev S1x1536 : Shape := ⟨2, ![1, 1536]⟩
abbrev S1x512 : Shape := ⟨2, ![1, 512]⟩
abbrev S6144x1536 : Shape := ⟨2, ![6144, 1536]⟩
abbrev S6144x512 : Shape := ⟨2, ![6144, 512]⟩
abbrev S6144x64 : Shape := ⟨2, ![6144, 64]⟩
abbrev S6144x28 : Shape := ⟨2, ![6144, 28]⟩
abbrev S6144 : Shape := ⟨1, ![6144]⟩
abbrev S6144x1 : Shape := ⟨2, ![6144, 1]⟩
abbrev S6144x28x128 : Shape := ⟨3, ![6144, 28, 128]⟩
abbrev S6144x28x1 : Shape := ⟨3, ![6144, 28, 1]⟩
abbrev S1x1x253 : Shape := ⟨3, ![1, 1, 253]⟩
abbrev S6144x28x253 : Shape := ⟨3, ![6144, 28, 253]⟩
abbrev S6144x2112 : Shape := ⟨2, ![6144, 2112]⟩

abbrev nBuf : Space → Nat
  | .hbm => 20
  | .vmem => 11
  | .smem => 0
  | _ => 0

abbrev bufTy : (tb : Table) → Fin (tcTables nBuf tb) → BufTy
  | .hbm, ⟨0, _⟩ => ⟨S3x2048x3584, .bf16⟩
  | .hbm, ⟨1, _⟩ => ⟨S3584, .bf16⟩
  | .hbm, ⟨2, _⟩ => ⟨S2112x3584, .fp8e4m3⟩
  | .hbm, ⟨3, _⟩ => ⟨S17x28, .f32⟩
  | .hbm, ⟨4, _⟩ => ⟨S1536, .bf16⟩
  | .hbm, ⟨5, _⟩ => ⟨S512, .bf16⟩
  | .hbm, ⟨6, _⟩ => ⟨S17x128x28, .f32⟩
  | .hbm, ⟨7, _⟩ => ⟨S2176x28, .f32⟩
  | .hbm, ⟨8, _⟩ => ⟨S2112x28, .f32⟩
  | .hbm, ⟨9, _⟩ => ⟨S2112x28x128, .f32⟩
  | .hbm, ⟨10, _⟩ => ⟨S2112x3584, .f32⟩
  | .hbm, ⟨11, _⟩ => ⟨S6144x3584, .bf16⟩
  | .hbm, ⟨12, _⟩ => ⟨S1x3584, .bf16⟩
  | .hbm, ⟨13, _⟩ => ⟨S1x1536, .bf16⟩
  | .hbm, ⟨14, _⟩ => ⟨S1x512, .bf16⟩
  | .hbm, ⟨15, _⟩ => ⟨S6144x1536, .bf16⟩
  | .hbm, ⟨16, _⟩ => ⟨S6144x512, .bf16⟩
  | .hbm, ⟨17, _⟩ => ⟨S6144x64, .bf16⟩
  | .hbm, ⟨18, _⟩ => ⟨S6144x3584, .fp8e4m3⟩
  | .hbm, ⟨19, _⟩ => ⟨S6144x28, .f32⟩
  | .local _ .vmem, ⟨0, _⟩ => ⟨S6144x3584, .bf16⟩
  | .local _ .vmem, ⟨1, _⟩ => ⟨S1x3584, .bf16⟩
  | .local _ .vmem, ⟨2, _⟩ => ⟨S2112x3584, .fp8e4m3⟩
  | .local _ .vmem, ⟨3, _⟩ => ⟨S2112x3584, .f32⟩
  | .local _ .vmem, ⟨4, _⟩ => ⟨S1x1536, .bf16⟩
  | .local _ .vmem, ⟨5, _⟩ => ⟨S1x512, .bf16⟩
  | .local _ .vmem, ⟨6, _⟩ => ⟨S6144x1536, .bf16⟩
  | .local _ .vmem, ⟨7, _⟩ => ⟨S6144x512, .bf16⟩
  | .local _ .vmem, ⟨8, _⟩ => ⟨S6144x64, .bf16⟩
  | .local _ .vmem, ⟨9, _⟩ => ⟨S6144x3584, .fp8e4m3⟩
  | .local _ .vmem, ⟨10, _⟩ => ⟨S6144x28, .f32⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2112x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRuns.lean ====
/-
The kernel's body run once in each of its four kinds of grid point: the first, an odd one, an even one between the
first and the last, and the last. Each run is from the buffers that the point reads and writes, the read ones at given
contents and the written ones at any, and leaves in each written buffer the pieces that the run stored there.
-/
module

public import proofs.«01_k».proof.Proof.Gen.Kernel.Frame
public import proofs.«01_k».proof.Proof.Gen.Kernel.Loops

@[expose] public section

set_option maxHeartbeats 4000000
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- The first point: the first block quantised and the weights dequantised. -/
def runFirst (h1 : k0_cond1 i = 1#1) (h2 : ¬ k0_cond2 i = 1#1) (h3 : ¬ k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) :
    Σ' (L10 : List (View.Piece (Elt F) S512x3584 .fp8e4m3)), Σ' (L11 : List (View.Piece (Elt F) S512x28 .f32)), Σ' (L12 : List (View.Piece (Elt F) S512x3584 .bf16)), { L14 : List (View.Piece (Elt F) S2112x3584 .bf16) // ∀ (E : Set ℕ) (f10 : BufTy.Contents (Elt F) arg10.view.ty) (f11 : BufTy.Contents (Elt F) arg11.view.ty) (f12 : BufTy.Contents (Elt F) arg12.view.ty) (f14 : BufTy.Contents (Elt F) arg14.view.ty),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg14.view.loc (c : Thread nD τ) ↦[arg14.view.set]{fullShare} (arg14.view.writes (Elt F) f14 L14)))) } := by
  refine ⟨?_, ?_, ?_, ?_, fun E f10 f11 f12 f14 => ?run⟩
  case run =>
    simp only [cc0_mla_a_proj_eq_skeleton]; unfold cc0_mla_a_proj_skel
    iintro ⟨HR1, HR2, HR3, HR4, HW10, HW11, HW12, HW14⟩
    sl_exec
    sl_step
    sl_close

/-- An odd point: its own block quantised into the second buffer, the block before it projected from the first. -/
def runOdd (h1 : ¬ k0_cond1 i = 1#1) (h2 : k0_cond2 i = 1#1) (h3 : ¬ k0_cond3 i = 1#1) (h4 : ¬ k0_cond4 i = 1#1) (X1 : BufTy.Contents (Elt F) arg1.view.ty) (X2 : BufTy.Contents (Elt F) arg2.view.ty) (X5 : BufTy.Contents (Elt F) arg5.view.ty) (X6 : BufTy.Contents (Elt F) arg6.view.ty) (X12 : BufTy.Contents (Elt F) arg12.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), Σ' (L10 : List (View.Piece (Elt F) S512x3584 .fp8e4m3)), Σ' (L11 : List (View.Piece (Elt F) S512x28 .f32)), Σ' (L13 : List (View.Piece (Elt F) S512x3584 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f13 : BufTy.Contents (Elt F) arg13.view.ty) (f15 : BufTy.Contents (Elt F) arg15.view.ty),
      (iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg13.view.loc (c : Thread nD τ) ↦[arg13.view.set]{fullShare} (arg13.view.writes (Elt F) f13 L13)) ∗ (arg15.view.loc (c : Thread nD τ) ↦[arg15.view.set]{fullShare} (arg15.view.writes (Elt F) f15 L15)))) } := by
  refine ⟨?_, ?_, ?_, ?_, ?_, ?_, ?_, fun E f7 f8 f9 f10 f11 f13 f15 => ?run⟩
  case run =>
    simp only [cc0_mla_a_proj_eq_skeleton]; unfold cc0_mla_a_proj_skel
    iintro ⟨HR1, HR2, HR5, HR6, HR12, HR14, HW7, HW8, HW9, HW10, HW11, HW13, HW15⟩
    sl_exec
    sl_step
    sl_close

/-- An even point between the first and the last: its own block quantised into the first buffer, the block before it projected from the second. -/
def runEven (h1 : ¬ k0_cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X5 : BufTy.Contents (Elt F) arg5.view.ty) (X6 : BufTy.Contents (Elt F) arg6.view.ty) (X13 : BufTy.Contents (Elt F) arg13.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), Σ' (L10 : List (View.Piece (Elt F) S512x3584 .fp8e4m3)), Σ' (L11 : List (View.Piece (Elt F) S512x28 .f32)), Σ' (L12 : List (View.Piece (Elt F) S512x3584 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f15 : BufTy.Contents (Elt F) arg15.view.ty),
      (iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg15.view.loc (c : Thread nD τ) ↦[arg15.view.set]{fullShare} (arg15.view.writes (Elt F) f15 L15)))) } := by
  refine ⟨?_, ?_, ?_, ?_, ?_, ?_, ?_, fun E f7 f8 f9 f10 f11 f12 f15 => ?run⟩
  case run =>
    simp only [cc0_mla_a_proj_eq_skeleton]; unfold cc0_mla_a_proj_skel
    iintro ⟨HR1, HR2, HR5, HR6, HR13, HR14, HW7, HW8, HW9, HW10, HW11, HW12, HW15⟩
    sl_exec
    sl_step
    sl_close

/-- The last point: the last block projected from the second buffer. -/
def runLast (h1 : ¬ k0_cond1 i = 1#1) (h2 : ¬ k0_cond2 i = 1#1) (h3 : ¬ k0_cond3 i = 1#1) (h4 : k0_cond4 i = 1#1) (X5 : BufTy.Contents (Elt F) arg5.view.ty) (X6 : BufTy.Contents (Elt F) arg6.view.ty) (X13 : BufTy.Contents (Elt F) arg13.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f15 : BufTy.Contents (Elt F) arg15.view.ty),
      (iprop((arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg15.view.loc (c : Thread nD τ) ↦[arg15.view.set]{fullShare} (arg15.view.writes (Elt F) f15 L15)))) } := by
  refine ⟨?_, ?_, ?_, ?_, fun E f7 f8 f9 f15 => ?run⟩
  case run =>
    simp only [cc0_mla_a_proj_eq_skeleton]; unfold cc0_mla_a_proj_skel
    iintro ⟨HR5, HR6, HR13, HR14, HW7, HW8, HW9, HW15⟩
    sl_exec
    sl_step
    sl_close

end Cert.Kernel.Hand

end
-- ==== Proof.KernelFrame.lean ====
/-
The frame of the program `Kernel`: every run ends, with the arguments unchanged and every semaphore at zero. The body is
run at each of its four kinds of point from buffers holding anything, and leaves buffers holding anything.
-/
module

public import proofs.«01_k».proof.Proof.KernelRuns

@[expose] public section

set_option maxHeartbeats 4000000
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

section Kinds

variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- All fifteen buffers that the body is given, each holding anything. -/
def anyAll : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

/-- The body at the first point, from any contents to some contents. -/
theorem anyFirst (h1 : k0_cond1 i = 1#1) (h2 : ¬ k0_cond2 i = 1#1) (h3 : ¬ k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H3 H4 H10 H11 H12 H14]
  · iapply ((runFirst Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).2.2.2.property Set.univ f10 f11 f12 f14)
    isplitl [H1]; · iexact H1
    isplitl [H2]; · iexact H2
    isplitl [H3]; · iexact H3
    isplitl [H4]; · iexact H4
    isplitl [H10]; · iexact H10
    isplitl [H11]; · iexact H11
    isplitl [H12]; · iexact H12
    iexact H14
  iintro %u ⟨H1, H2, H3, H4, H10, H11, H12, H14⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the odd point, from any contents to some contents. -/
theorem anyOdd (h1 : ¬ k0_cond1 i = 1#1) (h2 : k0_cond2 i = 1#1) (h3 : ¬ k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H5 H6 H12 H14 H7 H8 H9 H10 H11 H13 H15]
  · iapply ((runOdd Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).2.2.2.2.2.2.property Set.univ f7 f8 f9 f10 f11 f13 f15)
    isplitl [H1]; · iexact H1
    isplitl [H2]; · iexact H2
    isplitl [H5]; · iexact H5
    isplitl [H6]; · iexact H6
    isplitl [H12]; · iexact H12
    isplitl [H14]; · iexact H14
    isplitl [H7]; · iexact H7
    isplitl [H8]; · iexact H8
    isplitl [H9]; · iexact H9
    isplitl [H10]; · iexact H10
    isplitl [H11]; · iexact H11
    isplitl [H13]; · iexact H13
    iexact H15
  iintro %u ⟨H1, H2, H5, H6, H12, H14, H7, H8, H9, H10, H11, H13, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the even point between the first and the last, from any contents to some contents. -/
theorem anyEven (h1 : ¬ k0_cond1 i = 1#1) (h2 : ¬ k0_cond2 i = 1#1) (h3 : k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H5 H6 H13 H14 H7 H8 H9 H10 H11 H12 H15]
  · iapply ((runEven Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).2.2.2.2.2.2.property Set.univ f7 f8 f9 f10 f11 f12 f15)
    isplitl [H1]; · iexact H1
    isplitl [H2]; · iexact H2
    isplitl [H5]; · iexact H5
    isplitl [H6]; · iexact H6
    isplitl [H13]; · iexact H13
    isplitl [H14]; · iexact H14
    isplitl [H7]; · iexact H7
    isplitl [H8]; · iexact H8
    isplitl [H9]; · iexact H9
    isplitl [H10]; · iexact H10
    isplitl [H11]; · iexact H11
    isplitl [H12]; · iexact H12
    iexact H15
  iintro %u ⟨H1, H2, H5, H6, H13, H14, H7, H8, H9, H10, H11, H12, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the last point, from any contents to some contents. -/
theorem anyLast (h1 : ¬ k0_cond1 i = 1#1) (h2 : ¬ k0_cond2 i = 1#1) (h3 : ¬ k0_cond3 i = 1#1) (h4 : k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H5 H6 H13 H14 H7 H8 H9 H15]
  · iapply ((runLast Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).2.2.2.property Set.univ f7 f8 f9 f15)
    isplitl [H5]; · iexact H5
    isplitl [H6]; · iexact H6
    isplitl [H13]; · iexact H13
    isplitl [H14]; · iexact H14
    isplitl [H7]; · iexact H7
    isplitl [H8]; · iexact H8
    isplitl [H9]; · iexact H9
    iexact H15
  iintro %u ⟨H5, H6, H13, H14, H7, H8, H9, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Kinds

/-- Which of the body's four branches a point takes. -/
theorem branch (t : Fin cfg0.N) :
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1)
    ∨ (¬ k0_cond1 (grid0.coords t) = 1#1 ∧ ¬ k0_cond2 (grid0.coords t) = 1#1 ∧ ¬ k0_cond3 (grid0.coords t) = 1#1 ∧ k0_cond4 (grid0.coords t) = 1#1) := by
  revert t; decide +kernel

/-- The body at any point, from any contents to some contents. -/
theorem anyPoint (c : Dev nD) (t : Fin cfg0.N) :
    anyAll (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)
      ⊢ wp frame (wpE (defs₀ (F := F)) Variants.none c none) Set.univ (bodyAt0 t)
          (fun _ => anyAll (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)) := by
  rcases branch t with ⟨h1, h2, h3, h4⟩ | ⟨h1, h2, h3, h4⟩ | ⟨h1, h2, h3, h4⟩ | ⟨h1, h2, h3, h4⟩
  · exact anyFirst c _ _ _ _ _ _ _ _ _ _ _ _ _ _ _ _ _ _ _ _ _ _ _ _ _ _ _ _ _ _ _ h1 h2 h3 h4
  · exact anyOdd c _ _ _ _ _ _ _ _ _ _ _ _ _ _ _ _ _ _ _ _ _ _ _ _ _ _ _ _ _ _ _ h1 h2 h3 h4
  · exact anyEven c _ _ _ _ _ _ _ _ _ _ _ _ _ _ _ _ _ _ _ _ _ _ _ _ _ _ _ _ _ _ _ h1 h2 h3 h4
  · exact anyLast c _ _ _ _ _ _ _ _ _ _ _ _ _ _ _ _ _ _ _ _ _ _ _ _ _ _ _ _ _ _ _ h1 h2 h3 h4

variable (m : (ℓ : Loc nD τ sig) → Buf (Elt F) ℓ) (ρ : Dev nD → PrngReg)

/-- The proof data: nothing said of what the body leaves. -/
def frameDat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point is the body. -/
theorem row (t : Fin cfg0.N) : defs₀ (F := F) .tc cfg0.body (cfg0.bodyArgs t (cfg0.slots t)) = bodyAt0 t := by
  unfold defs₀; rw [Defs.onTc_tc]

/-- What the region keeps for the body, opened: the four scratch buffers at some contents and the generator register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The body obligation. -/
theorem frameBody (c : Dev nD) : (frameDat (F := F) m c).BodyObligation (defs₀ (F := F)) Variants.none () Set.univ := by
  intro t Y _
  rw [bigSep_W0, bigSep_W0, row,
    show (frameDat (F := F) m c).Φ t.castSucc = Pipeline.ΦA spec0 c from rfl,
    show (frameDat (F := F) m c).Φ t.succ = Pipeline.ΦA spec0 c from rfl, kept_eq]
  have hb := anyPoint (F := F) c t
  unfold anyAll at hb
  iintro ⟨⟨⟨HS0, HS1, HS2, HS3⟩, Hg⟩, HO, H0, H1, H2, H3, H4, H5, H6, H7, H8, H9, H10⟩
  iapply wp_wand_r
  isplitl [H0 H1 H2 H3 H4 H5 H6 H7 H8 H9 H10 HS0 HS1 HS2 HS3]
  · iapply hb
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iexact HS3
  iintro %u ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]
  · iexists e0; isplitr
    · ipureintro; trivial
    iexact H0
  isplitl [H1]
  · iexists e1; isplitr
    · ipureintro; trivial
    iexact H1
  isplitl [H2]
  · iexists e2; isplitr
    · ipureintro; trivial
    iexact H2
  isplitl [H3]
  · iexists e3; isplitr
    · ipureintro; trivial
    iexact H3
  isplitl [H4]
  · iexists e4; isplitr
    · ipureintro; trivial
    iexact H4
  isplitl [H5]
  · iexists e5; isplitr
    · ipureintro; trivial
    iexact H5
  isplitl [H6]
  · iexists e6; isplitr
    · ipureintro; trivial
    iexact H6
  isplitl [H7]
  · iexists e7; isplitr
    · ipureintro; trivial
    iexact H7
  isplitl [H8]
  · iexists e8; isplitr
    · ipureintro; trivial
    iexact H8
  isplitl [H9]
  · iexists e9; isplitr
    · ipureintro; trivial
    iexact H9
  iexists e10; isplitr
  · ipureintro; trivial
  iexact H10

-- the launch theorem's implicit arguments are found by unifying its conclusion with this one, which takes unfolding plain
-- definitions in a metavariable's type
set_option backward.isDefEq.respectTransparency.types false in
/-- The launch, nothing said of the results. -/
theorem frameRun : θ_run defs (onTc (τ := τ) (main (F := F))) (s₀ m ρ)
    (fun r => RDat.FramePost (cfgs 0) (frameDat m) (V m) r ∧ r.2.sem = fun _ => 0) :=
  RDat.θ_run_frame (Q' := _) cfgs (0 : Fin 1) launch0 defs₀ Variants.none (frameDat m) m ρ main
    (hbody := frameBody m) (hshare := fun c w => by unfold RDat.share; split <;> rfl)
    (howed := fun _ _ => rfl) (V := V m) (hmain := hmain m Variants.none) (hA := fun _ _ => rfl) (hΦ := fun _ _ => rfl)

/-- The frame: the arguments end unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans (V_main_arg2 m c),
      (h.arr_in c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hs⟩) (frameRun m ρ)

end Cert.Kernel.Hand

end
-- ==== Proof.IdealRuns.lean ====
/-
The kernel's body run once in each of its four kinds of grid point: the first, an odd one, an even one between the
first and the last, and the last. Each run is from the buffers that the point reads and writes, the read ones at given
contents and the written ones at any, and leaves in each written buffer the pieces that the run stored there.
-/
module

public import proofs.«01_k».proof.Proof.Gen.KernelIdeal.Frame
public import proofs.«01_k».proof.Proof.Gen.KernelIdeal.Loops

@[expose] public section

set_option maxHeartbeats 4000000
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- The first point: the first block quantised and the weights dequantised. -/
def runFirst (h1 : k0_cond1 i = 1#1) (h2 : ¬ k0_cond2 i = 1#1) (h3 : ¬ k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) :
    Σ' (L10 : List (View.Piece (Elt F) S512x3584 .fp8e4m3)), Σ' (L11 : List (View.Piece (Elt F) S512x28 .f32)), Σ' (L12 : List (View.Piece (Elt F) S512x3584 .bf16)), { L14 : List (View.Piece (Elt F) S2112x3584 .bf16) // ∀ (E : Set ℕ) (f10 : BufTy.Contents (Elt F) arg10.view.ty) (f11 : BufTy.Contents (Elt F) arg11.view.ty) (f12 : BufTy.Contents (Elt F) arg12.view.ty) (f14 : BufTy.Contents (Elt F) arg14.view.ty),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg14.view.loc (c : Thread nD τ) ↦[arg14.view.set]{fullShare} (arg14.view.writes (Elt F) f14 L14)))) } := by
  refine ⟨?_, ?_, ?_, ?_, fun E f10 f11 f12 f14 => ?run⟩
  case run =>
    simp only [cc0_mla_a_proj_eq_skeleton]; unfold cc0_mla_a_proj_skel
    iintro ⟨HR1, HR2, HR3, HR4, HW10, HW11, HW12, HW14⟩
    sl_exec
    sl_step
    sl_close

/-- An odd point: its own block quantised into the second buffer, the block before it projected from the first. -/
def runOdd (h1 : ¬ k0_cond1 i = 1#1) (h2 : k0_cond2 i = 1#1) (h3 : ¬ k0_cond3 i = 1#1) (h4 : ¬ k0_cond4 i = 1#1) (X1 : BufTy.Contents (Elt F) arg1.view.ty) (X2 : BufTy.Contents (Elt F) arg2.view.ty) (X5 : BufTy.Contents (Elt F) arg5.view.ty) (X6 : BufTy.Contents (Elt F) arg6.view.ty) (X12 : BufTy.Contents (Elt F) arg12.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), Σ' (L10 : List (View.Piece (Elt F) S512x3584 .fp8e4m3)), Σ' (L11 : List (View.Piece (Elt F) S512x28 .f32)), Σ' (L13 : List (View.Piece (Elt F) S512x3584 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f13 : BufTy.Contents (Elt F) arg13.view.ty) (f15 : BufTy.Contents (Elt F) arg15.view.ty),
      (iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg13.view.loc (c : Thread nD τ) ↦[arg13.view.set]{fullShare} (arg13.view.writes (Elt F) f13 L13)) ∗ (arg15.view.loc (c : Thread nD τ) ↦[arg15.view.set]{fullShare} (arg15.view.writes (Elt F) f15 L15)))) } := by
  refine ⟨?_, ?_, ?_, ?_, ?_, ?_, ?_, fun E f7 f8 f9 f10 f11 f13 f15 => ?run⟩
  case run =>
    simp only [cc0_mla_a_proj_eq_skeleton]; unfold cc0_mla_a_proj_skel
    iintro ⟨HR1, HR2, HR5, HR6, HR12, HR14, HW7, HW8, HW9, HW10, HW11, HW13, HW15⟩
    sl_exec
    sl_step
    sl_close

/-- An even point between the first and the last: its own block quantised into the first buffer, the block before it projected from the second. -/
def runEven (h1 : ¬ k0_cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X5 : BufTy.Contents (Elt F) arg5.view.ty) (X6 : BufTy.Contents (Elt F) arg6.view.ty) (X13 : BufTy.Contents (Elt F) arg13.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), Σ' (L10 : List (View.Piece (Elt F) S512x3584 .fp8e4m3)), Σ' (L11 : List (View.Piece (Elt F) S512x28 .f32)), Σ' (L12 : List (View.Piece (Elt F) S512x3584 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f15 : BufTy.Contents (Elt F) arg15.view.ty),
      (iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg15.view.loc (c : Thread nD τ) ↦[arg15.view.set]{fullShare} (arg15.view.writes (Elt F) f15 L15)))) } := by
  refine ⟨?_, ?_, ?_, ?_, ?_, ?_, ?_, fun E f7 f8 f9 f10 f11 f12 f15 => ?run⟩
  case run =>
    simp only [cc0_mla_a_proj_eq_skeleton]; unfold cc0_mla_a_proj_skel
    iintro ⟨HR1, HR2, HR5, HR6, HR13, HR14, HW7, HW8, HW9, HW10, HW11, HW12, HW15⟩
    sl_exec
    sl_step
    sl_close

/-- The last point: the last block projected from the second buffer. -/
def runLast (h1 : ¬ k0_cond1 i = 1#1) (h2 : ¬ k0_cond2 i = 1#1) (h3 : ¬ k0_cond3 i = 1#1) (h4 : k0_cond4 i = 1#1) (X5 : BufTy.Contents (Elt F) arg5.view.ty) (X6 : BufTy.Contents (Elt F) arg6.view.ty) (X13 : BufTy.Contents (Elt F) arg13.view.ty) (X14 : BufTy.Contents (Elt F) arg14.view.ty) :
    Σ' (L7 : List (View.Piece (Elt F) S512x1536 .bf16)), Σ' (L8 : List (View.Piece (Elt F) S512x512 .bf16)), Σ' (L9 : List (View.Piece (Elt F) S512x64 .bf16)), { L15 : List (View.Piece (Elt F) S512x1536 .f32) // ∀ (E : Set ℕ) (f7 : BufTy.Contents (Elt F) arg7.view.ty) (f8 : BufTy.Contents (Elt F) arg8.view.ty) (f9 : BufTy.Contents (Elt F) arg9.view.ty) (f15 : BufTy.Contents (Elt F) arg15.view.ty),
      (iprop((arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg15.view.loc (c : Thread nD τ) ↦[arg15.view.set]{fullShare} f15)) : sProp 𝕄)
      ⊢ wp frame (wpE (defs₀ (F := F)) 𝒱 (c : Thread nD τ) bd) E (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg15.view.loc (c : Thread nD τ) ↦[arg15.view.set]{fullShare} (arg15.view.writes (Elt F) f15 L15)))) } := by
  refine ⟨?_, ?_, ?_, ?_, fun E f7 f8 f9 f15 => ?run⟩
  case run =>
    simp only [cc0_mla_a_proj_eq_skeleton]; unfold cc0_mla_a_proj_skel
    iintro ⟨HR5, HR6, HR13, HR14, HW7, HW8, HW9, HW15⟩
    sl_exec
    sl_step
    sl_close

end Cert.KernelIdeal.Hand

end
-- ==== Proof.IdealFrame.lean ====
/-
The frame of the program `KernelIdeal`: every run ends, with the arguments unchanged and every semaphore at zero. The body is
run at each of its four kinds of point from buffers holding anything, and leaves buffers holding anything.
-/
module

public import proofs.«01_k».proof.Proof.IdealRuns

@[expose] public section

set_option maxHeartbeats 4000000
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

section Kinds

variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- All fifteen buffers that the body is given, each holding anything. -/
def anyAll : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

/-- The body at the first point, from any contents to some contents. -/
theorem anyFirst (h1 : k0_cond1 i = 1#1) (h2 : ¬ k0_cond2 i = 1#1) (h3 : ¬ k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H3 H4 H10 H11 H12 H14]
  · iapply ((runFirst Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).2.2.2.property Set.univ f10 f11 f12 f14)
    isplitl [H1]; · iexact H1
    isplitl [H2]; · iexact H2
    isplitl [H3]; · iexact H3
    isplitl [H4]; · iexact H4
    isplitl [H10]; · iexact H10
    isplitl [H11]; · iexact H11
    isplitl [H12]; · iexact H12
    iexact H14
  iintro %u ⟨H1, H2, H3, H4, H10, H11, H12, H14⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the odd point, from any contents to some contents. -/
theorem anyOdd (h1 : ¬ k0_cond1 i = 1#1) (h2 : k0_cond2 i = 1#1) (h3 : ¬ k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H5 H6 H12 H14 H7 H8 H9 H10 H11 H13 H15]
  · iapply ((runOdd Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).2.2.2.2.2.2.property Set.univ f7 f8 f9 f10 f11 f13 f15)
    isplitl [H1]; · iexact H1
    isplitl [H2]; · iexact H2
    isplitl [H5]; · iexact H5
    isplitl [H6]; · iexact H6
    isplitl [H12]; · iexact H12
    isplitl [H14]; · iexact H14
    isplitl [H7]; · iexact H7
    isplitl [H8]; · iexact H8
    isplitl [H9]; · iexact H9
    isplitl [H10]; · iexact H10
    isplitl [H11]; · iexact H11
    isplitl [H13]; · iexact H13
    iexact H15
  iintro %u ⟨H1, H2, H5, H6, H12, H14, H7, H8, H9, H10, H11, H13, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the even point between the first and the last, from any contents to some contents. -/
theorem anyEven (h1 : ¬ k0_cond1 i = 1#1) (h2 : ¬ k0_cond2 i = 1#1) (h3 : k0_cond3 i = 1#1) (h4 : ¬ k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H1 H2 H5 H6 H13 H14 H7 H8 H9 H10 H11 H12 H15]
  · iapply ((runEven Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).2.2.2.2.2.2.property Set.univ f7 f8 f9 f10 f11 f12 f15)
    isplitl [H1]; · iexact H1
    isplitl [H2]; · iexact H2
    isplitl [H5]; · iexact H5
    isplitl [H6]; · iexact H6
    isplitl [H13]; · iexact H13
    isplitl [H14]; · iexact H14
    isplitl [H7]; · iexact H7
    isplitl [H8]; · iexact H8
    isplitl [H9]; · iexact H9
    isplitl [H10]; · iexact H10
    isplitl [H11]; · iexact H11
    isplitl [H12]; · iexact H12
    iexact H15
  iintro %u ⟨H1, H2, H5, H6, H13, H14, H7, H8, H9, H10, H11, H12, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-- The body at the last point, from any contents to some contents. -/
theorem anyLast (h1 : ¬ k0_cond1 i = 1#1) (h2 : ¬ k0_cond2 i = 1#1) (h3 : ¬ k0_cond3 i = 1#1) (h4 : k0_cond4 i = 1#1) :
    anyAll (F := F) c arg1 arg2 arg3 arg4 arg5 arg6 arg7 arg8 arg9 arg10 arg11 arg12 arg13 arg14 arg15
      ⊢ wp frame (wpE (defs₀ (F := F)) Variants.none (c : Thread nD τ) none) Set.univ (cc0_mla_a_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => anyAll (F := F) c arg1 arg2 arg3 arg4 arg5 arg6 arg7 arg8 arg9 arg10 arg11 arg12 arg13 arg14 arg15) := by
  unfold anyAll owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  iapply wp_wand_r
  isplitl [H5 H6 H13 H14 H7 H8 H9 H15]
  · iapply ((runLast Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).2.2.2.property Set.univ f7 f8 f9 f15)
    isplitl [H5]; · iexact H5
    isplitl [H6]; · iexact H6
    isplitl [H13]; · iexact H13
    isplitl [H14]; · iexact H14
    isplitl [H7]; · iexact H7
    isplitl [H8]; · iexact H8
    isplitl [H9]; · iexact H9
    iexact H15
  iintro %u ⟨H5, H6, H13, H14, H7, H8, H9, H15⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Kinds

/-- Which of the body's four branches a point takes. -/
theorem branch (t : Fin cfg0.N) :
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1)
    ∨ (¬ k0_cond1 (grid0.coords t) = 1#1 ∧ ¬ k0_cond2 (grid0.coords t) = 1#1 ∧ ¬ k0_cond3 (grid0.coords t) = 1#1 ∧ k0_cond4 (grid0.coords t) = 1#1) := by
  revert t; decide +kernel

/-- The body at any point, from any contents to some contents. -/
theorem anyPoint (c : Dev nD) (t : Fin cfg0.N) :
    anyAll (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)
      ⊢ wp frame (wpE (defs₀ (F := F)) Variants.none c none) Set.univ (bodyAt0 t)
          (fun _ => anyAll (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)) := by
  rcases branch t with ⟨h1, h2, h3, h4⟩ | ⟨h1, h2, h3, h4⟩ | ⟨h1, h2, h3, h4⟩ | ⟨h1, h2, h3, h4⟩
  · exact anyFirst c _ _ _ _ _ _ _ _ _ _ _ _ _ _ _ _ _ _ _ _ _ _ _ _ _ _ _ _ _ _ _ h1 h2 h3 h4
  · exact anyOdd c _ _ _ _ _ _ _ _ _ _ _ _ _ _ _ _ _ _ _ _ _ _ _ _ _ _ _ _ _ _ _ h1 h2 h3 h4
  · exact anyEven c _ _ _ _ _ _ _ _ _ _ _ _ _ _ _ _ _ _ _ _ _ _ _ _ _ _ _ _ _ _ _ h1 h2 h3 h4
  · exact anyLast c _ _ _ _ _ _ _ _ _ _ _ _ _ _ _ _ _ _ _ _ _ _ _ _ _ _ _ _ _ _ _ h1 h2 h3 h4

variable (m : (ℓ : Loc nD τ sig) → Buf (Elt F) ℓ) (ρ : Dev nD → PrngReg)

/-- The proof data: nothing said of what the body leaves. -/
def frameDat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point is the body. -/
theorem bodyRow (t : Fin cfg0.N) : defs₀ (F := F) .tc cfg0.body (cfg0.bodyArgs t (cfg0.slots t)) = bodyAt0 t := by
  unfold defs₀; rw [Defs.onTc_tc]

/-- What the region keeps for the body, opened: the four scratch buffers at some contents and the generator register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The body obligation. -/
theorem frameBody (c : Dev nD) : (frameDat (F := F) m c).BodyObligation (defs₀ (F := F)) Variants.none () Set.univ := by
  intro t Y _
  rw [bigSep_W0, bigSep_W0, bodyRow,
    show (frameDat (F := F) m c).Φ t.castSucc = Pipeline.ΦA spec0 c from rfl,
    show (frameDat (F := F) m c).Φ t.succ = Pipeline.ΦA spec0 c from rfl, kept_eq]
  have hb := anyPoint (F := F) c t
  unfold anyAll at hb
  iintro ⟨⟨⟨HS0, HS1, HS2, HS3⟩, Hg⟩, HO, H0, H1, H2, H3, H4, H5, H6, H7, H8, H9, H10⟩
  iapply wp_wand_r
  isplitl [H0 H1 H2 H3 H4 H5 H6 H7 H8 H9 H10 HS0 HS1 HS2 HS3]
  · iapply hb
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iexact HS3
  iintro %u ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]
  · iexists e0; isplitr
    · ipureintro; trivial
    iexact H0
  isplitl [H1]
  · iexists e1; isplitr
    · ipureintro; trivial
    iexact H1
  isplitl [H2]
  · iexists e2; isplitr
    · ipureintro; trivial
    iexact H2
  isplitl [H3]
  · iexists e3; isplitr
    · ipureintro; trivial
    iexact H3
  isplitl [H4]
  · iexists e4; isplitr
    · ipureintro; trivial
    iexact H4
  isplitl [H5]
  · iexists e5; isplitr
    · ipureintro; trivial
    iexact H5
  isplitl [H6]
  · iexists e6; isplitr
    · ipureintro; trivial
    iexact H6
  isplitl [H7]
  · iexists e7; isplitr
    · ipureintro; trivial
    iexact H7
  isplitl [H8]
  · iexists e8; isplitr
    · ipureintro; trivial
    iexact H8
  isplitl [H9]
  · iexists e9; isplitr
    · ipureintro; trivial
    iexact H9
  iexists e10; isplitr
  · ipureintro; trivial
  iexact H10

-- the launch theorem's implicit arguments are found by unifying its conclusion with this one, which takes unfolding plain
-- definitions in a metavariable's type
set_option backward.isDefEq.respectTransparency.types false in
/-- The launch, nothing said of the results. -/
theorem frameRun : θ_run defs (onTc (τ := τ) (main (F := F))) (s₀ m ρ)
    (fun r => RDat.FramePost (cfgs 0) (frameDat m) (V m) r ∧ r.2.sem = fun _ => 0) :=
  RDat.θ_run_frame (Q' := _) cfgs (0 : Fin 1) launch0 defs₀ Variants.none (frameDat m) m ρ main
    (hbody := frameBody m) (hshare := fun c w => by unfold RDat.share; split <;> rfl)
    (howed := fun _ _ => rfl) (V := V m) (hmain := hmain m Variants.none) (hA := fun _ _ => rfl) (hΦ := fun _ _ => rfl)

/-- The frame: the arguments end unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans (V_main_arg2 m c),
      (h.arr_in c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hs⟩) (frameRun m ρ)

end Cert.KernelIdeal.Hand

end
-- ==== Proof.Scale.lean ====
/-
The block scale, as numbers. The kernel takes the exponent field of `v` as the largest word `k << 23` whose float is at
most `v` and makes the scale and its inverse by integer arithmetic on that word. The mathematics takes the least power
of two above `v`. For `0 ≤ v < 2^126` the two are one number, and the kernel's inverse is that number's inverse.
-/
module

public import Idealize.ShloMosaic.PureOps.Ideal.Laws

@[expose] public section

noncomputable section

namespace Cert.Math

open Idealize.ShloMosaic

/-- The word with exponent field `k` and nothing else. -/
def word (k : Nat) : BitVec 32 := BitVec.ofNat 32 k <<< 23

/-- The float of that word. -/
def pow (k : Nat) : EReal := Ideal.ofBits .f32 (word k)

theorem word_fields : ∀ k : Fin 256, ((word k).extractLsb' 31 1 == 1#1) = false
    ∧ ((word k).extractLsb' 23 8).toNat = k.val ∧ ((word k).extractLsb' 0 23).toNat = 0 := by
  unfold word; decide +kernel

theorem pow_zero : pow 0 = 0 := by
  obtain ⟨e1, e2, e3⟩ := word_fields ⟨0, by omega⟩
  simp only at e1 e2 e3
  unfold pow Ideal.ofBits Ideal.ieee
  simp only [show (8 + 23 : Nat) = 31 from rfl, e1, e2, e3]
  rw [if_neg (by omega)]
  simp

theorem ieee_of (b : BitVec 32) (k : ℕ) (h0 : 1 ≤ k) (h1 : k ≤ 254) (e1 : (b.extractLsb' 31 1 == 1#1) = false)
    (e2 : (b.extractLsb' 23 8).toNat = k) (e3 : (b.extractLsb' 0 23).toNat = 0) :
    Ideal.ieee 8 23 b = (((1 : ℝ) * ((2 ^ 23 + 0 : ℕ) : ℝ) * (2 : ℝ) ^ ((k : ℤ) - (2 ^ (8 - 1) - 1) - (23 : ℕ)) : ℝ) : EReal) := by
  unfold Ideal.ieee
  simp only [show (8 + 23 : Nat) = 31 from rfl, e1, e2, e3]
  rw [if_neg (by omega), if_neg (by omega)]
  rfl

theorem val_of (k : ℤ) : (1 : ℝ) * ((2 ^ 23 + 0 : ℕ) : ℝ) * (2 : ℝ) ^ (k - (2 ^ (8 - 1) - 1) - (23 : ℕ)) = 2 ^ (k - 127) := by
  have h : ((2 ^ 23 + 0 : ℕ) : ℝ) = (2 : ℝ) ^ (23 : ℤ) := by push_cast; norm_num
  rw [h, one_mul, ← zpow_add₀ (by norm_num)]
  congr 1
  push_cast
  ring

theorem pow_eq (k : Nat) (h0 : 1 ≤ k) (h1 : k ≤ 254) : pow k = (((2 : ℝ) ^ ((k : ℤ) - 127) : ℝ) : EReal) := by
  obtain ⟨e1, e2, e3⟩ := word_fields ⟨k, by omega⟩
  exact (ieee_of _ k h0 h1 e1 e2 e3).trans (congrArg _ (val_of k))

theorem pow_top : pow 255 = ⊤ := by
  obtain ⟨e1, e2, e3⟩ := word_fields ⟨255, by omega⟩
  simp only at e1 e2 e3
  unfold pow Ideal.ofBits Ideal.ieee
  simp only [show (8 + 23 : Nat) = 31 from rfl, e1, e2, e3]
  rw [if_pos (by omega)]
  simp

theorem pow_lt_succ (k : Nat) (h : k ≤ 254) : pow k < pow (k + 1) := by
  rcases Nat.eq_zero_or_pos k with rfl | h0
  · rw [pow_zero, pow_eq 1 le_rfl (by norm_num)]
    exact_mod_cast (by positivity : (0 : ℝ) < 2 ^ (((1 : ℕ) : ℤ) - 127))
  · rcases Nat.lt_or_ge k 254 with h1 | h1
    · rw [pow_eq k h0 h, pow_eq (k + 1) (by omega) (by omega), EReal.coe_lt_coe_iff]
      exact zpow_lt_zpow_right₀ (by norm_num) (by push_cast; omega)
    · obtain rfl : k = 254 := by omega
      rw [pow_top, pow_eq 254 h0 h]; exact EReal.coe_lt_top _

theorem pow_mono {a b : Nat} (hab : a ≤ b) (hb : b ≤ 255) : pow a ≤ pow b := by
  induction b, hab using Nat.le_induction with
  | base => exact le_rfl
  | succ b hab ih => exact (ih (by omega)).trans (pow_lt_succ b (by omega)).le

/-- The exponent field of a number below `2^126`. -/
theorem exists_field (v : EReal) (h0 : 0 ≤ v) (h1 : v < pow 253) : ∃ n, n ≤ 252 ∧ pow n ≤ v ∧ v < pow (n + 1) := by
  by_contra hne
  push Not at hne
  have : ∀ n, n ≤ 253 → pow n ≤ v := fun n => by
    induction n with
    | zero => intro _; rw [pow_zero]; exact h0
    | succ n ih => intro hn; exact hne n (by omega) (ih (by omega))
  exact absurd h1 (not_lt.2 (this 253 le_rfl))

theorem pow_le_iff {v : EReal} {n : Nat} (hn : n ≤ 252) (h1 : pow n ≤ v) (h2 : v < pow (n + 1)) {k : Nat} (hk : k ≤ 255) :
    pow k ≤ v ↔ k ≤ n := by
  constructor
  · intro h; by_contra hkn
    exact absurd h (not_le.2 (h2.trans_le (pow_mono (by omega) hk)))
  · intro h; exact (pow_mono h (by omega)).trans h1

/-- The kernel's exponent field: the largest word whose float is at most `v`. -/
def field (v : EReal) : BitVec 32 :=
  (Finset.univ : Finset (Fin 256)).fold IntOp.maxsi 2147483648#32 fun k : Fin 256 => if pow k ≤ v then word k else 0#32

theorem word_toInt : ∀ k : Fin 256, k.val ≤ 252 → (word k).toInt = (k.val : ℤ) * 8388608 := by
  unfold word; decide +kernel

theorem toInt_maxsi (x y : BitVec 32) : (IntOp.maxsi x y).toInt = max x.toInt y.toInt := by
  unfold IntOp.maxsi
  simp only [BitVec.slt, decide_eq_true_eq]
  split
  · next h => rw [max_eq_left h.le]
  · next h => rw [max_eq_right (not_lt.1 h)]

theorem fold_word (n : Nat) (hn : n ≤ 252) :
    ((Finset.univ : Finset (Fin 256)).fold IntOp.maxsi 2147483648#32 fun k : Fin 256 => if k.val ≤ n then word k else 0#32) = word n := by
  apply BitVec.eq_of_toInt_eq
  rw [← Finset.fold_hom (op' := max) (m := BitVec.toInt) toInt_maxsi]
  have hw := word_toInt ⟨n, by omega⟩ hn
  simp only at hw
  rw [hw]
  apply le_antisymm
  · rw [Finset.fold_max_le]
    have hlow : (2147483648#32).toInt = -2147483648 := by decide
    refine ⟨by rw [hlow]; omega, fun k _ => ?_⟩
    split
    · next h =>
      rw [word_toInt k (h.trans hn)]
      have : (k.val : ℤ) ≤ n := by exact_mod_cast h
      omega
    · have hz : (0#32).toInt = 0 := by decide
      rw [hz]
      omega
  · rw [Finset.le_fold_max]
    refine Or.inr ⟨⟨n, by omega⟩, Finset.mem_univ _, ?_⟩
    simp only [le_refl, if_true]
    rw [hw]

theorem field_eq {v : EReal} {n : Nat} (hn : n ≤ 252) (h1 : pow n ≤ v) (h2 : v < pow (n + 1)) : field v = word n := by
  rw [← fold_word n hn]
  unfold field
  congr 1; funext k
  simp only [pow_le_iff hn h1 h2 (show k.val ≤ 255 by omega)]

/-- The kernel's scale, -/
def kScale (v : EReal) : EReal := if field v = 0#32 then Ideal.ofBits .f32 0x3F800000#32 else Ideal.ofBits .f32 (field v + 8388608#32)
/-- its inverse, -/
def kInv (v : EReal) : EReal := if field v = 0#32 then Ideal.ofBits .f32 0x3F800000#32 else Ideal.ofBits .f32 (2122317824#32 - field v)

theorem word_arith : ∀ n : Fin 253, (word n = 0#32 ↔ n.val = 0) ∧ word n + 8388608#32 = word (n.val + 1)
    ∧ 2122317824#32 - word n = word (253 - n.val) := by
  unfold word; decide +kernel

/-- `2^j` as the reference writes it. -/
def step (j : Fin 253) : EReal := Ideal.exp2 (((((BitVec.ofNat 32 j.val) - 125#32).toInt : ℝ)) : EReal)

/-- The reference's scale: the least power of two above `v`, and 1 below the least normal number. -/
def rScale (v : EReal) : EReal :=
  if v < Ideal.ofBits .f32 0x00800000#32 then Ideal.ofBits .f32 0x3F800000#32
  else (Finset.univ : Finset (Fin 253)).fold min (Ideal.ofBits .f32 0x7F800000#32)
    fun j => if v < step j then step j else Ideal.ofBits .f32 0x7F800000#32

theorem toInt_step : ∀ j : Fin 253, ((BitVec.ofNat 32 j.val) - 125#32).toInt = (j.val : ℤ) - 125 := by
  decide +kernel

theorem step_eq (j : Fin 253) : step j = pow (j.val + 2) := by
  unfold step
  rw [toInt_step, pow_eq _ (by omega) (by omega)]
  show ((Real.rpow 2 _ : ℝ) : EReal) = _
  rw [show Real.rpow 2 (((j.val : ℤ) - 125 : ℤ) : ℝ) = (2 : ℝ) ^ (((((j.val : ℤ) - 125 : ℤ)) : ℝ)) from rfl, Real.rpow_intCast]
  rw [EReal.coe_eq_coe_iff]
  congr 1; push_cast; ring

theorem one_bits : Ideal.ofBits .f32 0x3F800000#32 = 1 := by
  have := pow_eq 127 (by norm_num) (by norm_num)
  norm_num at this
  exact this

theorem top_bits : Ideal.ofBits .f32 0x7F800000#32 = ⊤ := pow_top

theorem min_bits : Ideal.ofBits .f32 0x00800000#32 = pow 1 := rfl

/-- The two scales are one, and the kernel's inverse is one over it. -/
theorem scale_eq (v : EReal) (h0 : 0 ≤ v) (h1 : v < pow 253) :
    kScale v = rScale v ∧ kInv v = Ideal.div 1 (rScale v) := by
  obtain ⟨n, hn, e1, e2⟩ := exists_field v h0 h1
  obtain ⟨w0, w1, w2⟩ := word_arith ⟨n, by omega⟩
  simp only at w0 w1 w2
  have hf := field_eq hn e1 e2
  have hr : rScale v = if n = 0 then 1 else pow (n + 1) := by
    unfold rScale
    rw [min_bits, one_bits, top_bits]
    rcases Nat.eq_zero_or_pos n with rfl | hpos
    · rw [if_pos e2, if_pos rfl]
    · rw [if_neg (not_lt.2 ((pow_mono hpos (by omega)).trans e1)), if_neg (by omega)]
      apply le_antisymm
      · rw [Finset.fold_min_le]
        refine Or.inr ⟨⟨n - 1, by omega⟩, Finset.mem_univ _, ?_⟩
        rw [step_eq]
        simp only [show n - 1 + 2 = n + 1 by omega]
        rw [if_pos e2]
      · rw [Finset.le_fold_min]
        refine ⟨le_top, fun j _ => ?_⟩
        rw [step_eq]
        split
        · next hlt =>
          refine pow_mono ?_ (by omega)
          by_contra hc
          exact absurd hlt (not_lt.2 ((pow_le_iff hn e1 e2 (by omega)).2 (by omega)))
        · exact le_top
  have hdiv1 : Ideal.div 1 1 = 1 := by
    unfold Ideal.div; rw [if_neg one_ne_zero]; simp
  constructor
  · unfold kScale
    rw [hf, hr, one_bits, w1]
    simp only [w0]; rfl
  · unfold kInv
    rw [hf, hr, one_bits, w2]
    simp only [w0]
    split
    · exact hdiv1.symm
    · next hne =>
      show pow (253 - n) = _
      rw [pow_eq (253 - n) (by omega) (by omega), pow_eq (n + 1) (by omega) (by omega)]
      unfold Ideal.div
      rw [if_neg (by
        have : ((2 : ℝ) ^ (((n + 1 : ℕ) : ℤ) - 127)) ≠ 0 := by positivity
        exact_mod_cast this), one_mul, ← EReal.coe_inv, EReal.coe_eq_coe_iff, ← zpow_neg]
      congr 1; push_cast [Nat.cast_sub (show n ≤ 253 by omega)]; ring

end Cert.Math

end
-- ==== Proof.Rows.lean ====
/-
The kernel's arithmetic on one row of 3584 entries, as numbers: the row's normaliser, the normalised entries, and for
each group of 128 columns the scale, the codes and the codes times the scale.
-/
module

public import proofs.«01_k».proof.Proof.Scale

@[expose] public section

noncomputable section

namespace Cert.Math

open Idealize.ShloMosaic

/-- Column `l` of group `g`, -/
def col (g : Fin 28) (l : Fin 128) : Fin 3584 := ⟨128 * g.val + l.val, by omega⟩
/-- a column's group, -/
def grp (j : Fin 3584) : Fin 28 := ⟨j.val / 128, by omega⟩
/-- and its place in the group. -/
def lane (j : Fin 3584) : Fin 128 := ⟨j.val % 128, by omega⟩

theorem grp_col (g : Fin 28) (l : Fin 128) : grp (col g l) = g := by
  apply Fin.ext; simp only [grp, col]; omega

theorem col_grp (j : Fin 3584) : col (grp j) (lane j) = j := by
  apply Fin.ext; simp only [grp, col, lane]; omega

/-- One over the root of the mean square plus epsilon, of a row whose squares sum to `s`. -/
def rsOf (s : EReal) : EReal :=
  Ideal.rsqrt (Ideal.div s (Ideal.ofBits .f32 0x45600000#32) + Ideal.ofBits .f32 0x358637BD#32)

/-- The row's normaliser, the squares summed as the kernel sums them. -/
def rowRs (H : Fin 3584 → EReal) : EReal := rsOf (∑ l : Fin 128, ∑ g : Fin 28, H (col g l) * H (col g l))

/-- The normalised row. -/
def rowX (H G : Fin 3584 → EReal) (j : Fin 3584) : EReal := H j * rowRs H * G j

/-- A group's greatest absolute value over 448. -/
def grpV (x : Fin 128 → EReal) : EReal :=
  (Finset.univ : Finset (Fin 128)).fold max ⊥ (fun l => max (x l) (-(x l))) * Ideal.ofBits .f32 0x3B124925#32

/-- The code of a normalised entry `x` at the inverse scale `s`. -/
def codeOf (x s : EReal) : EReal := min (Ideal.ofBits .f32 0x43E00000#32) (max (Ideal.ofBits .f32 0xC3E00000#32) (x * s))

/-- The row's group maxima over 448, -/
def rowV (H G : Fin 3584 → EReal) (g : Fin 28) : EReal := grpV fun l => rowX H G (col g l)
/-- its scales, -/
def rowScale (H G : Fin 3584 → EReal) (g : Fin 28) : EReal := kScale (rowV H G g)
/-- its codes, -/
def rowCode (H G : Fin 3584 → EReal) (j : Fin 3584) : EReal := codeOf (rowX H G j) (kInv (rowV H G (grp j)))
/-- and the codes times the scales. -/
def rowDeq (H G : Fin 3584 → EReal) (j : Fin 3584) : EReal := rowCode H G j * rowScale H G (grp j)

end Cert.Math

end
-- ==== Proof.Group.lean ====
/-
The body's arithmetic on one group of 128 columns of 32 rows, in vector operations and read entry by entry.
-/
module

public import proofs.«01_k».proof.Proof.Rows
public import proofs.«01_k».proof.Proof.Gen.KernelIdeal.Skeleton
public import Idealize.ShloMosaic.Lib.Pointwise

@[expose] public section

set_option maxRecDepth 65536

noncomputable section

namespace Cert.KernelIdeal.Hand

open Cert.KernelIdeal Cert.KernelIdeal.Gen Cert.Math
open Idealize.ShloMosaic

variable {F : FTy → Type} [FloatOps F]

/-- One step of the sum of squares. -/
def addSq (a : FVec F S32x128 .f32) (v : Vec F S32x128 .bf16) : FVec F S32x128 .f32 :=
  let e := extf .f32 (shapeCast S32x128 v shapeCasts_S32x128_S32x128) bitsLt_bf16_f32
  addf a (mulf e e)

/-- The rows' normalisers from the sum of squares. -/
def gRs (a : FVec F S32x128 .f32) : FVec F S32x1 .f32 :=
  rsqrt (addf (divf (shapeCast S32x1 (multiReduction .add [1] S32 a 0x00000000#32 reduces_S32x128_S32 (.inl rfl) rfl)
    shapeCasts_S32_S32x1) (broadcast S32x1 (Scalar.ofBits .f32 0x45600000#32))) (broadcast S32x1 (Scalar.ofBits .f32 0x358637BD#32)))

/-- The normalised group. -/
def gX (rs : FVec F S32x1 .f32) (v : Vec F S32x128 .bf16) (γ : Vec F S1x128 .bf16) : FVec F S32x128 .bf16 :=
  truncf .bf16 (mulf (mulf (extf .f32 (shapeCast S32x128 v shapeCasts_S32x128_S32x128) bitsLt_bf16_f32)
    (broadcastTo S32x128 rs broadcasts_S32x1_S32x128))
    (broadcastTo S32x128 (extf .f32 (shapeCast S1x128 γ shapeCasts_S1x128_S1x128) bitsLt_bf16_f32) broadcasts_S1x128_S32x128)) bitsLt_bf16_f32

/-- The group's greatest absolute value over 448, row by row. -/
def gV (x : FVec F S32x128 .bf16) : FVec F S32x1 .f32 :=
  mulf (extf .f32 (shapeCast S32x1 (multiReduction .maximumf [1] S32 (absf x) 0xFF80#16 reduces_S32x128_S32 (.inr rfl) rfl)
    shapeCasts_S32_S32x1) bitsLt_bf16_f32) (broadcast S32x1 (Scalar.ofBits .f32 0x3B124925#32))

/-- Its exponent field. -/
def gField (v : FVec F S32x1 .f32) : IVec S32x1 32 :=
  let w : IVec S32x256 32 := shli (iota .tc S32x256 32 [1] iota_S32x256_d1_w32) (broadcast S32x256 23#32)
  shapeCast S32x1 (multiReductionI .maxsi [1] S32 (select (cmpf .ole (bitcastToFloat .f32 w : FVec F S32x256 .f32)
    (broadcastTo S32x256 v broadcasts_S32x1_S32x256)) w (broadcast S32x256 0#32)) 2147483648#32 reduces_S32x256_S32 rfl) shapeCasts_S32_S32x1

/-- The scales. -/
def gScale (v : FVec F S32x1 .f32) : FVec F S32x1 .f32 :=
  select (cmpi .eq (gField v) (broadcast S32x1 0#32)) (broadcast S32x1 (Scalar.ofBits .f32 0x3F800000#32))
    (bitcastToFloat .f32 (addi (gField v) (broadcast S32x1 8388608#32)))

/-- Their inverses. -/
def gInv (v : FVec F S32x1 .f32) : FVec F S32x1 .f32 :=
  select (cmpi .eq (gField v) (broadcast S32x1 0#32)) (broadcast S32x1 (Scalar.ofBits .f32 0x3F800000#32))
    (bitcastToFloat .f32 (subi (broadcast S32x1 2122317824#32) (gField v)))

/-- The codes. -/
def gCodes (x : FVec F S32x128 .bf16) : FVec F S32x128 .fp8e4m3 :=
  truncf .fp8e4m3 (minimumf (broadcast S32x128 (Scalar.truncf .bf16 bitsLt_bf16_f32 (Scalar.ofBits .f32 0x43E00000#32)))
    (maximumf (broadcast S32x128 (Scalar.truncf .bf16 bitsLt_bf16_f32 (Scalar.ofBits .f32 0xC3E00000#32)))
      (mulf x (broadcastTo S32x128 (truncf .bf16 (gInv (gV x)) bitsLt_bf16_f32) broadcasts_S32x1_S32x128)))) bitsLt_fp8e4m3_bf16

/-- The codes times the scales. -/
def gDeq (x : FVec F S32x128 .bf16) : FVec F S32x128 .bf16 :=
  shapeCast S32x128 (mulf (extf .bf16 (gCodes x) bitsLt_fp8e4m3_bf16)
    (broadcastTo S32x128 (truncf .bf16 (gScale (gV x)) bitsLt_bf16_f32) broadcasts_S32x1_S32x128)) shapeCasts_S32x128_S32x128

theorem addSq_apply (a : FVec Ideal S32x128 .f32) (v : Vec Ideal S32x128 .bf16) (r : Fin 32) (l : Fin 128) :
    addSq a v (ix2 r l) = a (ix2 r l) + v (ix2 r l) * v (ix2 r l) := by
  pointwise [addSq]

theorem gRs_apply (a : FVec Ideal S32x128 .f32) (r : Fin 32) :
    gRs a (ix2 r 0) = rsOf (∑ l : Fin 128, a (ix2 r l)) := by
  pointwise [gRs, rsOf]

theorem gX_apply (rs : FVec Ideal S32x1 .f32) (v : Vec Ideal S32x128 .bf16) (γ : Vec Ideal S1x128 .bf16) (r : Fin 32) (l : Fin 128) :
    gX rs v γ (ix2 r l) = v (ix2 r l) * rs (ix2 r 0) * γ (ix2 0 l) := by
  pointwise [gX]

theorem gV_apply (x : FVec Ideal S32x128 .bf16) (r : Fin 32) : gV x (ix2 r 0) = grpV fun l => x (ix2 r l) := by
  have hb : Ideal.ofBits .bf16 0xFF80#16 = ⊥ := by simp [Ideal.ofBits, Ideal.ieee]
  pointwise [gV, grpV]
  rw [hb]
  rfl

theorem gField_apply (v : FVec Ideal S32x1 .f32) (r : Fin 32) : gField v (ix2 r 0) = field (v (ix2 r 0)) := by
  have hw : ∀ k : Fin 256, IntOp.shli ArithUnit.vector (BitVec.ofNat 32 k.val) 23#32 = word k.val := by
    unfold word; decide +kernel
  pointwise [gField, field]
  simp only [hw]
  rfl

theorem gScale_apply (v : FVec Ideal S32x1 .f32) (r : Fin 32) : gScale v (ix2 r 0) = kScale (v (ix2 r 0)) := by
  pointwise [gScale, kScale, gField_apply]
  by_cases h : field (v (ix2 r 0)) = 0#32
  · simp [h, Scalar.select, IntOp.cmpi]
  · have hb : (field (v (ix2 r 0)) == 0#32) = false := by simpa using h
    simp [h, hb, Scalar.select, IntOp.cmpi, IntOp.addi]

theorem gInv_apply (v : FVec Ideal S32x1 .f32) (r : Fin 32) : gInv v (ix2 r 0) = kInv (v (ix2 r 0)) := by
  pointwise [gInv, kInv, gField_apply]
  by_cases h : field (v (ix2 r 0)) = 0#32
  · simp [h, Scalar.select, IntOp.cmpi]
  · have hb : (field (v (ix2 r 0)) == 0#32) = false := by simpa using h
    simp [h, hb, Scalar.select, IntOp.cmpi, IntOp.subi]

theorem gCodes_apply (x : FVec Ideal S32x128 .bf16) (r : Fin 32) (l : Fin 128) :
    gCodes x (ix2 r l) = codeOf (x (ix2 r l)) (kInv (grpV fun l => x (ix2 r l))) := by
  pointwise [gCodes, codeOf, gInv_apply, gV_apply]

theorem gDeq_apply (x : FVec Ideal S32x128 .bf16) (r : Fin 32) (l : Fin 128) :
    gDeq x (ix2 r l) = gCodes x (ix2 r l) * kScale (grpV fun l => x (ix2 r l)) := by
  pointwise [gDeq, gScale_apply, gV_apply]

end Cert.KernelIdeal.Hand

end
-- ==== Proof.Pieces.lean ====
/-
One stored piece of the quantising loop: 32 rows of one group of columns, read at an entry. The lemmas are over any
offsets, so that one of each serves every group of every loop.
-/
module

public import proofs.«01_k».proof.Proof.Group
public import Idealize.ShloMosaic.Lib.Pipeline.ValueKit.Tiles

@[expose] public section

set_option maxRecDepth 65536

noncomputable section

namespace Cert.KernelIdeal.Hand

open Cert.KernelIdeal Cert.KernelIdeal.Gen Cert.Math
open Idealize.ShloMosaic

/-- A block's row. -/
abbrev rowAt (X : S512x3584.Idx → EReal) (r : Fin 512) : Fin 3584 → EReal := fun j => X (ix2 r j)
/-- The one row of the weights of a normalisation. -/
abbrev rowOne (Γ : S1x3584.Idx → EReal) : Fin 3584 → EReal := fun j => Γ (ix2 0 j)

/-- The codes of a block of rows, -/
def blkCode (X : S512x3584.Idx → EReal) (Γ : S1x3584.Idx → EReal) (y : S512x3584.Idx) : EReal :=
  rowCode (rowAt X (y 0)) (rowOne Γ) (y 1)
/-- its scales, -/
def blkScale (X : S512x3584.Idx → EReal) (Γ : S1x3584.Idx → EReal) (y : S512x28.Idx) : EReal :=
  rowScale (rowAt X (y 0)) (rowOne Γ) (y 1)
/-- and the codes times the scales. -/
def blkDeq (X : S512x3584.Idx → EReal) (Γ : S1x3584.Idx → EReal) (y : S512x3584.Idx) : EReal :=
  rowDeq (rowAt X (y 0)) (rowOne Γ) (y 1)

/-- Row `r` of the 32 that start at `32 * k`. -/
def row (k : Nat) (hk : k < 16) (r : Fin 32) : Fin 512 := ⟨32 * k + r.val, by omega⟩

/-- 32 rows of one group loaded from a block, -/
abbrev slabAt (A : Memref sig .tc .vmem S512x3584 .bf16) (X : BufTy.Contents (Elt Ideal) A.view.ty) (o : Fin 2 → ℕ)
    (inb : ∀ a, o a + S32x128.size a ≤ S512x3584.size a) : Vec Ideal S32x128 .bf16 :=
  A.view.readAt (Elt Ideal) (Rect.unit (s := S512x3584) o S32x128.size inb).toLoadRect X
/-- and one group of the weights. -/
abbrev gammaAt (A : Memref sig .tc .vmem S1x3584 .bf16) (X : BufTy.Contents (Elt Ideal) A.view.ty) (o : Fin 2 → ℕ)
    (inb : ∀ a, o a + S1x128.size a ≤ S1x3584.size a) : Vec Ideal S1x128 .bf16 :=
  A.view.readAt (Elt Ideal) (Rect.unit (s := S1x3584) o S1x128.size inb).toLoadRect X

variable {n : Nat} (hn : n ≤ 16) {k : Fin n}
variable {A1 : Memref sig .tc .vmem S512x3584 .bf16} {A2 : Memref sig .tc .vmem S1x3584 .bf16}
variable {X1 : BufTy.Contents (Elt Ideal) A1.view.ty} {X2 : BufTy.Contents (Elt Ideal) A2.view.ty}

/-- A loaded slab, -/
theorem slab_apply {o : Fin n → Fin 2 → ℕ} {inb : ∀ a, o k a + S32x128.size a ≤ S512x3584.size a} (g : Fin 28)
    (ho : o k 0 = 32 * k.val ∧ o k 1 = 128 * g.val) (r : Fin 32) (l : Fin 128) :
    slabAt A1 X1 (o k) inb (ix2 r l)
      = rowAt (A1.view.read (Elt Ideal) X1) (row k.val (by omega) r) (col g l) := by
  refine View.ld_unit_apply_of (Val := Elt Ideal) (A1.view.read (Elt Ideal) X1) (o k) S32x128.size inb (ix2 r l) (ix2 _ _) ?_
  intro a
  match a with
  | 0 => simp only [row, ix2_0]; omega
  | 1 => simp only [col, ix2_1]; omega

/-- and the weights loaded for it. -/
theorem gamma_apply {o : Fin 2 → ℕ} {inb : ∀ a, o a + S1x128.size a ≤ S1x3584.size a} (g : Fin 28)
    (ho : o 0 = 0 ∧ o 1 = 128 * g.val) (l : Fin 128) :
    gammaAt A2 X2 o inb (ix2 0 l)
      = rowOne (A2.view.read (Elt Ideal) X2) (col g l) := by
  refine View.ld_unit_apply_of (Val := Elt Ideal) (A2.view.read (Elt Ideal) X2) o S1x128.size inb (ix2 0 l) (ix2 _ _) ?_
  intro a
  match a with
  | 0 => simp only [ix2_0, Fin.val_zero]; omega
  | 1 => simp only [col, ix2_1]; omega

/-- `a` holds the squares of the first `m` groups added up. -/
def Squares (H : Fin 32 → Fin 3584 → EReal) (a : FVec Ideal S32x128 .f32) (m : Nat) : Prop :=
  ∀ (r : Fin 32) (l : Fin 128), a (ix2 r l) = ∑ g ∈ Finset.univ.filter (fun g : Fin 28 => g.val < m), H r (col g l) * H r (col g l)

theorem squares_zero (H : Fin 32 → Fin 3584 → EReal) : Squares H (broadcast S32x128 (Scalar.ofBits .f32 0x00000000#32)) 0 := by
  intro r l
  pointwise
  simp

include hn in
theorem squares_succ {o : Fin n → Fin 2 → ℕ} {inb : ∀ a, o k a + S32x128.size a ≤ S512x3584.size a} {a : FVec Ideal S32x128 .f32} {m : Nat}
    (h : Squares (fun r => rowAt (A1.view.read (Elt Ideal) X1) (row k.val (by omega) r)) a m)
    (hm : m < 28) (ho : ∀ k, o k 0 = 32 * k.val ∧ o k 1 = 128 * m) :
    Squares (fun r => rowAt (A1.view.read (Elt Ideal) X1) (row k.val (by omega) r))
      (addSq a (slabAt A1 X1 (o k) inb)) (m + 1) := by
  intro r l
  rw [addSq_apply, h r l, slab_apply hn ⟨m, hm⟩ (ho k)]
  have hs : Finset.univ.filter (fun g : Fin 28 => g.val < m + 1)
      = insert ⟨m, hm⟩ (Finset.univ.filter (fun g : Fin 28 => g.val < m)) := by
    ext g; simp only [Finset.mem_filter, Finset.mem_univ, true_and, Finset.mem_insert, Fin.ext_iff]; omega
  rw [hs, Finset.sum_insert (by simp), add_comm]

theorem gRs_of {H : Fin 32 → Fin 3584 → EReal} {rs : FVec Ideal S32x1 .f32} {a : FVec Ideal S32x128 .f32} (e : rs = gRs a)
    (h : Squares H a 28) (r : Fin 32) : rs (ix2 r 0) = rowRs (H r) := by
  rw [e, gRs_apply]
  simp only [h r, rowRs]
  rw [Finset.filter_true_of_mem fun g _ => g.isLt]

/-- The rows' normalisers. -/
abbrev Normal (X : S512x3584.Idx → EReal) (k : Nat) (hk : k < 16) (rs : FVec Ideal S32x1 .f32) : Prop :=
  ∀ r : Fin 32, rs (ix2 r 0) = rowRs (rowAt X (row k hk r))

section
variable {rs : FVec Ideal S32x1 .f32} (hrs : Normal (A1.view.read (Elt Ideal) X1) k.val (by omega) rs)
variable {o : Fin n → Fin 2 → ℕ} {inb : ∀ a, o k a + S32x128.size a ≤ S512x3584.size a}
variable {o2 : Fin 2 → ℕ} {inb2 : ∀ a, o2 a + S1x128.size a ≤ S1x3584.size a}

include hrs in
theorem gX_eq (g : Fin 28) (ho : o k 0 = 32 * k.val ∧ o k 1 = 128 * g.val) (ho2 : o2 0 = 0 ∧ o2 1 = 128 * g.val) (r : Fin 32) (l : Fin 128) :
    gX rs (slabAt A1 X1 (o k) inb)
        (gammaAt A2 X2 o2 inb2) (ix2 r l)
      = rowX (rowAt (A1.view.read (Elt Ideal) X1) (row k.val (by omega) r)) (rowOne (A2.view.read (Elt Ideal) X2)) (col g l) := by
  rw [gX_apply, slab_apply hn g ho, gamma_apply g ho2, hrs r]
  rfl

theorem group_of {b : Nat} (h : b % 128 = 0 ∧ b + 128 ≤ 3584) : ∃ g : Fin 28, b = 128 * g.val :=
  ⟨⟨b / 128, by omega⟩, by simp only; omega⟩

/-- Where a slab's entry lies in the block. -/
theorem slab_emb {inb' : ∀ a, o k a + S32x128.size a ≤ S512x3584.size a} (g : Fin 28) (ho : o k 0 = 32 * k.val ∧ o k 1 = 128 * g.val) (x : S32x128.Idx) :
    (Rect.unit (s := S512x3584) (o k) S32x128.size inb').emb x = ix2 (row k.val (by omega) (x 0)) (col g (x 1)) := by
  funext a
  apply Fin.ext
  refine (Rect.idx_unit_val (s := S512x3584) (o k) S32x128.size inb' x a).trans ?_
  match a with
  | 0 => simp only [row, ix2_0]; omega
  | 1 => simp only [col, ix2_1]; omega

include hrs in
theorem code_piece (ho : ∀ k, (o k 0 = 32 * k.val ∧ o k 1 = o2 1) ∧ o2 0 = 0 ∧ o2 1 % 128 = 0) {P : FVec Ideal S32x128 .fp8e4m3}
    (e : P = gCodes (gX rs (slabAt A1 X1 (o k) inb)
        (gammaAt A2 X2 o2 inb2))) (x : S32x128.Idx) :
    P x
      = blkCode (A1.view.read (Elt Ideal) X1) (A2.view.read (Elt Ideal) X2) ((Rect.unit (s := S512x3584) (o k) S32x128.size inb).emb x) := by
  subst e
  obtain ⟨⟨h0, h1⟩, h2, h3⟩ := ho k
  obtain ⟨g, hg⟩ := group_of ⟨h3, inb2 1⟩
  obtain ⟨r, l, rfl⟩ : ∃ r l, x = ix2 r l := ⟨x 0, x 1, eq_ix2 x⟩
  rw [gCodes_apply, slab_emb hn g ⟨h0, h1.trans hg⟩]
  simp only [gX_eq hn hrs g ⟨h0, h1.trans hg⟩ ⟨h2, hg⟩, blkCode, rowCode, ix2_0, ix2_1, grp_col, rowV]

include hrs in
theorem deq_piece (ho : ∀ k, (o k 0 = 32 * k.val ∧ o k 1 = o2 1) ∧ o2 0 = 0 ∧ o2 1 % 128 = 0) {P : FVec Ideal S32x128 .bf16}
    (e : P = gDeq (gX rs (slabAt A1 X1 (o k) inb)
        (gammaAt A2 X2 o2 inb2))) (x : S32x128.Idx) :
    P x
      = blkDeq (A1.view.read (Elt Ideal) X1) (A2.view.read (Elt Ideal) X2) ((Rect.unit (s := S512x3584) (o k) S32x128.size inb).emb x) := by
  subst e
  obtain ⟨⟨h0, h1⟩, h2, h3⟩ := ho k
  obtain ⟨g, hg⟩ := group_of ⟨h3, inb2 1⟩
  obtain ⟨r, l, rfl⟩ : ∃ r l, x = ix2 r l := ⟨x 0, x 1, eq_ix2 x⟩
  rw [gDeq_apply, gCodes_apply, slab_emb hn g ⟨h0, h1.trans hg⟩]
  simp only [gX_eq hn hrs g ⟨h0, h1.trans hg⟩ ⟨h2, hg⟩, blkDeq, rowDeq, rowCode, rowScale, ix2_0, ix2_1, grp_col, rowV]

include hn inb2 in
theorem scale_inb {o3 : Fin n → Fin 2 → ℕ} (ho : ∀ k, (o k 0 = 32 * k.val ∧ o k 1 = o2 1) ∧ o2 0 = 0 ∧ o3 k 0 = 32 * k.val ∧ o2 1 = 128 * o3 k 1) :
    ∀ a, o3 k a + S32x1.size a ≤ S512x28.size a := by
  obtain ⟨_, _, h3, h4⟩ := ho k
  have h5 : o2 1 + 128 ≤ 3584 := inb2 1
  intro a
  match a with
  | 0 => show o3 k 0 + 32 ≤ 512; omega
  | 1 => show o3 k 1 + 1 ≤ 28; omega

include hrs in
theorem scale_piece {o3 : Fin n → Fin 2 → ℕ}
    (ho : ∀ k, (o k 0 = 32 * k.val ∧ o k 1 = o2 1) ∧ o2 0 = 0 ∧ o3 k 0 = 32 * k.val ∧ o2 1 = 128 * o3 k 1) {P : FVec Ideal S32x1 .f32}
    (e : P = gScale (gV (gX rs (slabAt A1 X1 (o k) inb)
        (gammaAt A2 X2 o2 inb2)))) (x : S32x1.Idx) :
    P x
      = blkScale (A1.view.read (Elt Ideal) X1) (A2.view.read (Elt Ideal) X2) ((Rect.unit (s := S512x28) (o3 k) S32x1.size (scale_inb (inb2 := inb2) hn ho)).emb x) := by
  subst e
  obtain ⟨⟨h0, h1⟩, h2, h3, h4⟩ := ho k
  have hg28 : o3 k 1 < 28 := by
    have h5 : o2 1 + 128 ≤ 3584 := inb2 1
    omega
  obtain ⟨r, rfl⟩ : ∃ r, x = ix2 r 0 := ⟨x 0, (eq_ix2 x).trans (by congr 1; exact Subsingleton.elim _ _)⟩
  have he : (Rect.unit (s := S512x28) (o3 k) S32x1.size (scale_inb (inb2 := inb2) hn ho)).emb (ix2 r 0) = ix2 (row k.val (by omega) r) ⟨o3 k 1, hg28⟩ := by
    funext a
    apply Fin.ext
    refine (Rect.idx_unit_val (s := S512x28) (o3 k) S32x1.size (scale_inb (inb2 := inb2) hn ho) (ix2 r 0) a).trans ?_
    match a with
    | 0 => simp only [row, ix2_0]; omega
    | 1 => simp only [ix2_1, Fin.val_zero]; omega
  rw [gScale_apply, gV_apply, he]
  simp only [gX_eq hn hrs ⟨o3 k 1, hg28⟩ ⟨h0, h1.trans h4⟩ ⟨h2, h4⟩, blkScale, rowScale, ix2_0, ix2_1, rowV]

end

end Cert.KernelIdeal.Hand

end
-- ==== Proof.Fill.lean ====
/-
Lists of stores that fill a part of a buffer with one function: each store agrees with the function where it stands,
and the part is covered. A loop's trips fill a band of rows, group of columns by group of columns.
-/
module

public import proofs.«01_k».proof.Proof.Pieces

@[expose] public section

set_option maxRecDepth 65536

noncomputable section

namespace Cert.KernelIdeal.Hand

open Cert.KernelIdeal Cert.KernelIdeal.Gen Cert.Math
open Idealize.ShloMosaic

section
variable {s : Shape} {e : EltTy} {G : s.Idx → Elt Ideal e} {L L' : List (View.Piece (Elt Ideal) s e)} {C C' C'' : s.Idx → Prop}

/-- The stores agree with `G` and cover the places of `C`. -/
def Filled (G : s.Idx → Elt Ideal e) (L : List (View.Piece (Elt Ideal) s e)) (C : s.Idx → Prop) : Prop :=
  (∀ p ∈ L, ∀ x : p.1.shape.Idx, p.2 x = G (p.1.emb x)) ∧ ∀ y, C y → ∃ p ∈ L, y ∈ p.1.set

theorem Filled.nil (h : ∀ y, ¬ C y) : Filled G [] C :=
  ⟨fun _ hp => absurd hp List.not_mem_nil, fun y hy => absurd hy (h y)⟩

theorem Filled.mono (h : Filled G L C) (hc : ∀ y, C' y → C y) : Filled G L C' := ⟨h.1, fun y hy => h.2 y (hc y hy)⟩

theorem Filled.append (h : Filled G L C) (h' : Filled G L' C') (hc : ∀ y, C'' y → C y ∨ C' y) : Filled G (L ++ L') C'' := by
  refine ⟨fun p hp => (List.mem_append.mp hp).elim (h.1 p) (h'.1 p), fun y hy => ?_⟩
  rcases hc y hy with hy | hy
  · obtain ⟨p, hp, hm⟩ := h.2 y hy
    exact ⟨p, List.mem_append.mpr (.inl hp), hm⟩
  · obtain ⟨p, hp, hm⟩ := h'.2 y hy
    exact ⟨p, List.mem_append.mpr (.inr hp), hm⟩

theorem Filled.cons {p : View.Piece (Elt Ideal) s e} (hp : ∀ x : p.1.shape.Idx, p.2 x = G (p.1.emb x)) (h : Filled G L C)
    (hc : ∀ y, C' y → y ∈ p.1.set ∨ C y) : Filled G (p :: L) C' := by
  refine ⟨List.forall_mem_cons.mpr ⟨hp, h.1⟩, fun y hy => ?_⟩
  rcases hc y hy with hy | hy
  · exact ⟨p, List.mem_cons_self, hy⟩
  · obtain ⟨q, hq, hm⟩ := h.2 y hy
    exact ⟨q, List.mem_cons_of_mem _ hq, hm⟩

/-- A buffer filled everywhere reads as the function. -/
theorem Filled.read {κ : Kind} {sp : Space} (h : Filled G L C) (hc : ∀ y, C y) (v : View sig κ sp s e) (f : v.ty.Contents (Elt Ideal)) :
    v.read (Elt Ideal) (v.writes (Elt Ideal) f L) = G :=
  funext fun y => View.read_writes_apply_of_pieces v f G L h.1 y (h.2 y (hc y))

end

/-- The first `m` groups of the 32 rows from `32 * k`, -/
def Band (k m : Nat) (y : S512x3584.Idx) : Prop := 32 * k ≤ (y 0).val ∧ (y 0).val < 32 * k + 32 ∧ (y 1).val < 128 * m
/-- and the first `m` scales of these rows. -/
def BandS (k m : Nat) (y : S512x28.Idx) : Prop := 32 * k ≤ (y 0).val ∧ (y 0).val < 32 * k + 32 ∧ (y 1).val < m

variable {n : Nat} (hn : n ≤ 16) {k : Fin n}
variable {A1 : Memref sig .tc .vmem S512x3584 .bf16} {A2 : Memref sig .tc .vmem S1x3584 .bf16}
variable {X1 : BufTy.Contents (Elt Ideal) A1.view.ty} {X2 : BufTy.Contents (Elt Ideal) A2.view.ty}
variable {rs : FVec Ideal S32x1 .f32} {hk : k.val < 16} (hrs : Normal (A1.view.read (Elt Ideal) X1) k.val hk rs)
variable {o : Fin n → Fin 2 → ℕ} {inb : ∀ a, o k a + S32x128.size a ≤ S512x3584.size a}
variable {o2 : Fin 2 → ℕ} {inb2 : ∀ a, o2 a + S1x128.size a ≤ S1x3584.size a} {m : Nat}

theorem band_cons {o : Fin 2 → ℕ} {inb : ∀ a, o a + S32x128.size a ≤ S512x3584.size a} {k m : Nat} (h0 : o 0 = 32 * k) (h1 : o 1 = 128 * m)
    (y : S512x3584.Idx) (hy : Band k (m + 1) y) : y ∈ (Rect.unit (s := S512x3584) o S32x128.size inb).set ∨ Band k m y := by
  obtain ⟨ha, hb, hc⟩ := hy
  by_cases hm : (y 1).val < 128 * m
  · exact .inr ⟨ha, hb, hm⟩
  · refine .inl (Rect.mem_set_unit.mpr fun a => ?_)
    match a with
    | 0 => exact ⟨by omega, show (y 0).val < o 0 + 32 by omega⟩
    | 1 => exact ⟨by omega, show (y 1).val < o 1 + 128 by omega⟩

theorem bandS_cons {o : Fin 2 → ℕ} {inb : ∀ a, o a + S32x1.size a ≤ S512x28.size a} {k m : Nat} (h0 : o 0 = 32 * k) (h1 : o 1 = m)
    (y : S512x28.Idx) (hy : BandS k (m + 1) y) : y ∈ (Rect.unit (s := S512x28) o S32x1.size inb).set ∨ BandS k m y := by
  obtain ⟨ha, hb, hc⟩ := hy
  by_cases hm : (y 1).val < m
  · exact .inr ⟨ha, hb, hm⟩
  · refine .inl (Rect.mem_set_unit.mpr fun a => ?_)
    match a with
    | 0 => exact ⟨by omega, show (y 0).val < o 0 + 32 by omega⟩
    | 1 => exact ⟨by omega, show (y 1).val < o 1 + 1 by omega⟩

include hn hrs in
theorem code_cons {L : List (View.Piece (Elt Ideal) S512x3584 .fp8e4m3)}
    (ho : ∀ k, (o k 0 = 32 * k.val ∧ o k 1 = o2 1) ∧ o2 0 = 0 ∧ o2 1 = 128 * m) {P : FVec Ideal S32x128 .fp8e4m3}
    (e : P = gCodes (gX rs (slabAt A1 X1 (o k) inb) (gammaAt A2 X2 o2 inb2)))
    (h : Filled (blkCode (A1.view.read (Elt Ideal) X1) (A2.view.read (Elt Ideal) X2)) L (Band k.val m)) :
    Filled (blkCode (A1.view.read (Elt Ideal) X1) (A2.view.read (Elt Ideal) X2))
      (⟨Rect.unit (s := S512x3584) (o k) S32x128.size inb, P⟩ :: L) (Band k.val (m + 1)) :=
  h.cons (code_piece hn hrs (fun k => ⟨(ho k).1, (ho k).2.1, by have := (ho k).2.2; omega⟩) e)
    (band_cons (inb := inb) (ho k).1.1 ((ho k).1.2.trans (ho k).2.2))

include hn hrs in
theorem deq_cons {L : List (View.Piece (Elt Ideal) S512x3584 .bf16)}
    (ho : ∀ k, (o k 0 = 32 * k.val ∧ o k 1 = o2 1) ∧ o2 0 = 0 ∧ o2 1 = 128 * m) {P : FVec Ideal S32x128 .bf16}
    (e : P = gDeq (gX rs (slabAt A1 X1 (o k) inb) (gammaAt A2 X2 o2 inb2)))
    (h : Filled (blkDeq (A1.view.read (Elt Ideal) X1) (A2.view.read (Elt Ideal) X2)) L (Band k.val m)) :
    Filled (blkDeq (A1.view.read (Elt Ideal) X1) (A2.view.read (Elt Ideal) X2))
      (⟨Rect.unit (s := S512x3584) (o k) S32x128.size inb, P⟩ :: L) (Band k.val (m + 1)) :=
  h.cons (deq_piece hn hrs (fun k => ⟨(ho k).1, (ho k).2.1, by have := (ho k).2.2; omega⟩) e)
    (band_cons (inb := inb) (ho k).1.1 ((ho k).1.2.trans (ho k).2.2))

include hn hrs in
theorem scale_cons {o3 : Fin n → Fin 2 → ℕ} {inb3 : ∀ a, o3 k a + S32x1.size a ≤ S512x28.size a} {L : List (View.Piece (Elt Ideal) S512x28 .f32)}
    (ho : ∀ k, ((o k 0 = 32 * k.val ∧ o k 1 = o2 1) ∧ o2 0 = 0 ∧ o3 k 0 = 32 * k.val ∧ o2 1 = 128 * o3 k 1) ∧ o3 k 1 = m) {P : FVec Ideal S32x1 .f32}
    (e : P = gScale (gV (gX rs (slabAt A1 X1 (o k) inb) (gammaAt A2 X2 o2 inb2))))
    (h : Filled (blkScale (A1.view.read (Elt Ideal) X1) (A2.view.read (Elt Ideal) X2)) L (BandS k.val m)) :
    Filled (blkScale (A1.view.read (Elt Ideal) X1) (A2.view.read (Elt Ideal) X2))
      (⟨Rect.unit (s := S512x28) (o3 k) S32x1.size inb3, P⟩ :: L) (BandS k.val (m + 1)) :=
  h.cons (scale_piece hn hrs (fun k => (ho k).1) e) (bandS_cons (inb := inb3) (ho k).1.2.2.1 (ho k).2)

end Cert.KernelIdeal.Hand

end
-- ==== Proof.Held.lean ====
/-
The body's fifteen buffers at given contents.
-/
module

public import proofs.«01_k».proof.Proof.IdealRuns
public import proofs.«01_k».proof.Proof.Fill

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

section
variable (c : Dev nD)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- All fifteen buffers that the body is given, at these contents. -/
def held (d1 : S512x3584.Idx → Elt Ideal .bf16) (d2 : S1x3584.Idx → Elt Ideal .bf16) (d3 : S2112x3584.Idx → Elt Ideal .fp8e4m3) (d4 : S17x28.Idx → Elt Ideal .f32) (d5 : S1x1536.Idx → Elt Ideal .bf16) (d6 : S1x512.Idx → Elt Ideal .bf16) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32) : sProp 𝕄 :=
  iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15)

end

end Cert.KernelIdeal.Hand

end
-- ==== Proof.TripFirst.lean ====
/-
The quantising loop of the first point: what one trip stores into the codes, the scales and the scratch buffer,
and what all of them leave there.
-/
module

public import proofs.«01_k».proof.Proof.Fill
public import proofs.«01_k».proof.Proof.Gen.KernelIdeal.Loops

@[expose] public section

set_option maxHeartbeats 2000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

theorem t1_rs (h : k0_cond1 i = 1#1) (X1 : BufTy.Contents (Elt Ideal) arg1.view.ty) (k : Fin k0_t1_loop.trips) :
    Normal (arg1.view.read (Elt Ideal) X1) k.val k.isLt (trip_k0_t1.sl.r_4 i arg1 h X1 k) := by
  refine gRs_of (rfl : _ = gRs _) ?_
  unfold trip_k0_t1.sl.r_3 trip_k0_t1.sl.r_2 trip_k0_t1.sl.r_1 trip_k0_t1.sl.r
  unfold k0_pay7 k0_pay6 k0_pay5 k0_pay4
  dsimp only
  iterate 28 refine squares_succ (n := k0_t1_loop.trips) (by decide) ?_ (by decide) (by decide +kernel)
  exact squares_zero _

/-- One trip's code stores, -/
theorem t1_code (h : k0_cond1 i = 1#1) (X1 : BufTy.Contents (Elt Ideal) arg1.view.ty) (X2 : BufTy.Contents (Elt Ideal) arg2.view.ty) (k : Fin k0_t1_loop.trips) :
    Filled (blkCode (arg1.view.read (Elt Ideal) X1) (arg2.view.read (Elt Ideal) X2)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).1 (Band k.val 28) := by
  have hrs := t1_rs i arg1 h X1 k
  unfold trip_k0_t1
  dsimp only
  iterate 28 refine code_cons (n := k0_t1_loop.trips) (k := k) (by decide) hrs (by decide +kernel) rfl ?_
  exact Filled.nil fun y hy => by obtain ⟨_, _, hy⟩ := hy; omega

/-- and those of the first `n` trips. -/
theorem t1_code_all (h : k0_cond1 i = 1#1) (X1 : BufTy.Contents (Elt Ideal) arg1.view.ty) (X2 : BufTy.Contents (Elt Ideal) arg2.view.ty) : ∀ n : Nat, n ≤ 16 →
    Filled (blkCode (arg1.view.read (Elt Ideal) X1) (arg2.view.read (Elt Ideal) X2)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).1 (fun y => (y 0).val < 32 * n)
  | 0, _ => Filled.nil fun y hy => by omega
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).1) (Band n 28) from ?_).append
      (t1_code_all h X1 X2 n (by omega)) fun y hy => ?_
    · unfold tripL_k0_t1
      exact t1_code 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

/-- One trip's scale stores, -/
theorem t1_scale (h : k0_cond1 i = 1#1) (X1 : BufTy.Contents (Elt Ideal) arg1.view.ty) (X2 : BufTy.Contents (Elt Ideal) arg2.view.ty) (k : Fin k0_t1_loop.trips) :
    Filled (blkScale (arg1.view.read (Elt Ideal) X1) (arg2.view.read (Elt Ideal) X2)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.1 (BandS k.val 28) := by
  have hrs := t1_rs i arg1 h X1 k
  unfold trip_k0_t1
  dsimp only
  iterate 28 refine scale_cons (n := k0_t1_loop.trips) (k := k) (by decide) hrs (by decide +kernel) rfl ?_
  exact Filled.nil fun y hy => by obtain ⟨_, _, hy⟩ := hy; omega

/-- and those of the first `n` trips. -/
theorem t1_scale_all (h : k0_cond1 i = 1#1) (X1 : BufTy.Contents (Elt Ideal) arg1.view.ty) (X2 : BufTy.Contents (Elt Ideal) arg2.view.ty) : ∀ n : Nat, n ≤ 16 →
    Filled (blkScale (arg1.view.read (Elt Ideal) X1) (arg2.view.read (Elt Ideal) X2)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.1 (fun y => (y 0).val < 32 * n)
  | 0, _ => Filled.nil fun y hy => by omega
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.1) (BandS n 28) from ?_).append
      (t1_scale_all h X1 X2 n (by omega)) fun y hy => ?_
    · unfold tripL_k0_t1
      exact t1_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 28 := (y 1).isLt
      simp only [BandS]
      omega

/-- One trip's deq stores, -/
theorem t1_deq (h : k0_cond1 i = 1#1) (X1 : BufTy.Contents (Elt Ideal) arg1.view.ty) (X2 : BufTy.Contents (Elt Ideal) arg2.view.ty) (k : Fin k0_t1_loop.trips) :
    Filled (blkDeq (arg1.view.read (Elt Ideal) X1) (arg2.view.read (Elt Ideal) X2)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.2.1 (Band k.val 28) := by
  have hrs := t1_rs i arg1 h X1 k
  unfold trip_k0_t1
  dsimp only
  iterate 28 refine deq_cons (n := k0_t1_loop.trips) (k := k) (by decide) hrs (by decide +kernel) rfl ?_
  exact Filled.nil fun y hy => by obtain ⟨_, _, hy⟩ := hy; omega

/-- and those of the first `n` trips. -/
theorem t1_deq_all (h : k0_cond1 i = 1#1) (X1 : BufTy.Contents (Elt Ideal) arg1.view.ty) (X2 : BufTy.Contents (Elt Ideal) arg2.view.ty) : ∀ n : Nat, n ≤ 16 →
    Filled (blkDeq (arg1.view.read (Elt Ideal) X1) (arg2.view.read (Elt Ideal) X2)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.2 (fun y => (y 0).val < 32 * n)
  | 0, _ => Filled.nil fun y hy => by omega
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.2) (Band n 28) from ?_).append
      (t1_deq_all h X1 X2 n (by omega)) fun y hy => ?_
    · unfold tripL_k0_t1
      exact t1_deq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

end Cert.KernelIdeal.Hand

end
-- ==== Proof.Weights.lean ====
/-
The weights dequantised block by block: a block of rows of one group of columns, the codes times the block's scale.
-/
module

public import proofs.«01_k».proof.Proof.Fill

@[expose] public section

set_option maxRecDepth 65536

noncomputable section

namespace Cert.KernelIdeal.Hand

open Cert.KernelIdeal Cert.KernelIdeal.Gen Cert.Math
open Idealize.ShloMosaic

section
variable {F : FTy → Type} [FloatOps F]

/-- A stored block of 128 rows, -/
def gW (s : Vec F S1x1 .f32) (w : Vec F S128x128 .fp8e4m3) : FVec F S128x128 .bf16 :=
  shapeCast S128x128 (mulf (extf .bf16 w bitsLt_fp8e4m3_bf16) (broadcastTo S128x128 (truncf .bf16 s bitsLt_bf16_f32) broadcasts_S1x1_S128x128))
    shapeCasts_S128x128_S128x128

/-- and of the last 64. -/
def gW64 (s : Vec F S1x1 .f32) (w : Vec F S64x128 .fp8e4m3) : FVec F S64x128 .bf16 :=
  shapeCast S64x128 (mulf (extf .bf16 w bitsLt_fp8e4m3_bf16) (broadcastTo S64x128 (truncf .bf16 s bitsLt_bf16_f32) broadcasts_S1x1_S64x128))
    shapeCasts_S64x128_S64x128
end

theorem gW_apply (s : Vec Ideal S1x1 .f32) (w : Vec Ideal S128x128 .fp8e4m3) (r : Fin 128) (l : Fin 128) :
    gW (F := Ideal) s w (ix2 r l) = w (ix2 r l) * s (ix2 0 0) := by
  pointwise [gW]

theorem gW64_apply (s : Vec Ideal S1x1 .f32) (w : Vec Ideal S64x128 .fp8e4m3) (r : Fin 64) (l : Fin 128) :
    gW64 (F := Ideal) s w (ix2 r l) = w (ix2 r l) * s (ix2 0 0) := by
  pointwise [gW64]

/-- The dequantised weights. -/
def wDeq (W : S2112x3584.Idx → EReal) (S : S17x28.Idx → EReal) (y : S2112x3584.Idx) : EReal :=
  W y * S (ix2 ⟨(y 0).val / 128, by have : (y 0).val < 2112 := (y 0).isLt; omega⟩ ⟨(y 1).val / 128, by have : (y 1).val < 3584 := (y 1).isLt; omega⟩)

/-- The first `m` groups of `s` rows from `r`. -/
def BandW (r s m : Nat) (y : S2112x3584.Idx) : Prop := r ≤ (y 0).val ∧ (y 0).val < r + s ∧ (y 1).val < 128 * m

variable {n : Nat} {k : Fin n} {m : Nat}
variable {A3 : Memref sig .tc .vmem S2112x3584 .fp8e4m3} {A4 : Memref sig .tc .vmem S17x28 .f32}
variable {X3 : BufTy.Contents (Elt Ideal) A3.view.ty} {X4 : BufTy.Contents (Elt Ideal) A4.view.ty}

theorem w_cons {o : Fin n → Fin 2 → ℕ} {inb : ∀ a, o k a + S128x128.size a ≤ S2112x3584.size a}
    {o4 : Fin n → Fin 2 → ℕ} {inb4 : ∀ a, o4 k a + S1x1.size a ≤ S17x28.size a} {L : List (View.Piece (Elt Ideal) S2112x3584 .bf16)}
    (ho : ∀ k, (o k 0 = 128 * k.val ∧ o k 1 = 128 * m) ∧ o4 k 0 = k.val ∧ o4 k 1 = m) {P : FVec Ideal S128x128 .bf16}
    (e : P = gW (A4.view.readAt (Elt Ideal) (Rect.unit (s := S17x28) (o4 k) S1x1.size inb4).toLoadRect X4)
      (A3.view.readAt (Elt Ideal) (Rect.unit (s := S2112x3584) (o k) S128x128.size inb).toLoadRect X3))
    (h : Filled (wDeq (A3.view.read (Elt Ideal) X3) (A4.view.read (Elt Ideal) X4)) L (BandW (128 * k.val) 128 m)) :
    Filled (wDeq (A3.view.read (Elt Ideal) X3) (A4.view.read (Elt Ideal) X4))
      (⟨Rect.unit (s := S2112x3584) (o k) S128x128.size inb, P⟩ :: L) (BandW (128 * k.val) 128 (m + 1)) := by
  obtain ⟨⟨h0, h1⟩, h2, h3⟩ := ho k
  refine h.cons (fun x => ?_) fun y hy => ?_
  · subst e
    obtain ⟨r, l, rfl⟩ : ∃ r l, x = ix2 r l := ⟨x 0, x 1, eq_ix2 x⟩
    refine (gW_apply _ _ r l).trans ?_
    unfold wDeq
    have hb : ∀ a, ((Rect.unit (s := S2112x3584) (o k) S128x128.size inb).emb (ix2 r l) a).val = o k a + (ix2 r l a).val :=
      fun a => Rect.idx_unit_val (s := S2112x3584) (o k) S128x128.size inb (ix2 r l) a
    generalize (Rect.unit (s := S2112x3584) (o k) S128x128.size inb).emb (ix2 r l) = y at hb ⊢
    have b0 : (y 0).val = (o k) 0 + r.val := hb 0
    have b1 : (y 1).val = (o k) 1 + l.val := hb 1
    have hr := r.isLt
    have hl := l.isLt
    refine congrArg₂ _ (View.ld_unit_apply_of (Val := Elt Ideal) (A3.view.read (Elt Ideal) X3) (o k) S128x128.size inb (ix2 r l) _ hb)
      (View.ld_unit_apply_of (Val := Elt Ideal) (A4.view.read (Elt Ideal) X4) (o4 k) S1x1.size inb4 (ix2 0 0) _ fun a => ?_)
    match a with
    | 0 => simp only [ix2_0, Fin.val_zero]; omega
    | 1 => simp only [ix2_1, Fin.val_zero]; omega
  · obtain ⟨ha, hb, hc⟩ := hy
    by_cases hm : (y 1).val < 128 * m
    · exact .inr ⟨ha, hb, hm⟩
    · refine .inl (Rect.mem_set_unit (inb := inb) |>.mpr fun a => ?_)
      match a with
      | 0 => exact ⟨by omega, show (y 0).val < o k 0 + 128 by omega⟩
      | 1 => exact ⟨by omega, show (y 1).val < o k 1 + 128 by omega⟩

theorem w64_cons {o : Fin 2 → ℕ} {inb : ∀ a, o a + S64x128.size a ≤ S2112x3584.size a}
    {o4 : Fin 2 → ℕ} {inb4 : ∀ a, o4 a + S1x1.size a ≤ S17x28.size a} {L : List (View.Piece (Elt Ideal) S2112x3584 .bf16)}
    (ho : (o 0 = 2048 ∧ o 1 = 128 * m) ∧ o4 0 = 16 ∧ o4 1 = m) {P : FVec Ideal S64x128 .bf16}
    (e : P = gW64 (A4.view.readAt (Elt Ideal) (Rect.unit (s := S17x28) o4 S1x1.size inb4).toLoadRect X4)
      (A3.view.readAt (Elt Ideal) (Rect.unit (s := S2112x3584) o S64x128.size inb).toLoadRect X3))
    {C : S2112x3584.Idx → Prop} (h : Filled (wDeq (A3.view.read (Elt Ideal) X3) (A4.view.read (Elt Ideal) X4)) L (fun y => C y ∨ BandW 2048 64 m y)) :
    Filled (wDeq (A3.view.read (Elt Ideal) X3) (A4.view.read (Elt Ideal) X4))
      (⟨Rect.unit (s := S2112x3584) o S64x128.size inb, P⟩ :: L) (fun y => C y ∨ BandW 2048 64 (m + 1) y) := by
  obtain ⟨⟨h0, h1⟩, h2, h3⟩ := ho
  refine h.cons (fun x => ?_) fun y hy => ?_
  · subst e
    obtain ⟨r, l, rfl⟩ : ∃ r l, x = ix2 r l := ⟨x 0, x 1, eq_ix2 x⟩
    refine (gW64_apply _ _ r l).trans ?_
    unfold wDeq
    have hb : ∀ a, ((Rect.unit (s := S2112x3584) o S64x128.size inb).emb (ix2 r l) a).val = o a + (ix2 r l a).val :=
      fun a => Rect.idx_unit_val (s := S2112x3584) o S64x128.size inb (ix2 r l) a
    generalize (Rect.unit (s := S2112x3584) o S64x128.size inb).emb (ix2 r l) = y at hb ⊢
    have b0 : (y 0).val = o 0 + r.val := hb 0
    have b1 : (y 1).val = o 1 + l.val := hb 1
    have hr := r.isLt
    have hl := l.isLt
    refine congrArg₂ _ (View.ld_unit_apply_of (Val := Elt Ideal) (A3.view.read (Elt Ideal) X3) o S64x128.size inb (ix2 r l) _ hb)
      (View.ld_unit_apply_of (Val := Elt Ideal) (A4.view.read (Elt Ideal) X4) o4 S1x1.size inb4 (ix2 0 0) _ fun a => ?_)
    match a with
    | 0 => simp only [ix2_0, Fin.val_zero]; omega
    | 1 => simp only [ix2_1, Fin.val_zero]; omega
  · rcases hy with hy | ⟨ha, hb, hc⟩
    · exact .inr (.inl hy)
    by_cases hm : (y 1).val < 128 * m
    · exact .inr (.inr ⟨ha, hb, hm⟩)
    · refine .inl (Rect.mem_set_unit (inb := inb) |>.mpr fun a => ?_)
      match a with
      | 0 => exact ⟨by omega, show (y 0).val < o 0 + 64 by omega⟩
      | 1 => exact ⟨by omega, show (y 1).val < o 1 + 128 by omega⟩

end Cert.KernelIdeal.Hand

end
-- ==== Proof.TripWeights.lean ====
/-
The loop of the first point that dequantises the weights: what one trip stores, and what all of them leave.
-/
module

public import proofs.«01_k».proof.Proof.Weights
public import proofs.«01_k».proof.Proof.Gen.KernelIdeal.Loops

@[expose] public section

set_option maxHeartbeats 2000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

/-- One trip's stores, -/
theorem t2_w (h : k0_cond1 i = 1#1) (X3 : BufTy.Contents (Elt Ideal) arg3.view.ty) (X4 : BufTy.Contents (Elt Ideal) arg4.view.ty) (k : Fin k0_t2_loop.trips) :
    Filled (wDeq (arg3.view.read (Elt Ideal) X3) (arg4.view.read (Elt Ideal) X4)) (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 k).1 (BandW (128 * k.val) 128 28) := by
  unfold trip_k0_t2
  dsimp only
  iterate 28 refine w_cons (n := k0_t2_loop.trips) (k := k) (by decide +kernel) rfl ?_
  exact Filled.nil fun y hy => by obtain ⟨_, _, hy⟩ := hy; omega

/-- and those of the first `n` trips. -/
theorem t2_w_all (h : k0_cond1 i = 1#1) (X3 : BufTy.Contents (Elt Ideal) arg3.view.ty) (X4 : BufTy.Contents (Elt Ideal) arg4.view.ty) : ∀ n : Nat, n ≤ 16 →
    Filled (wDeq (arg3.view.read (Elt Ideal) X3) (arg4.view.read (Elt Ideal) X4)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 n) (fun y => (y 0).val < 128 * n)
  | 0, _ => Filled.nil fun y hy => by omega
  | n + 1, hn => by
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 ⟨n, hn⟩
    rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 (n + 1) = _ from e]
    refine (show Filled _ ((tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 ⟨n, hn⟩)) (BandW (128 * n) 128 28) from ?_).append
      (t2_w_all h X3 X4 n (by omega)) fun y hy => ?_
    · unfold tripL_k0_t2
      exact t2_w 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X3 X4 ⟨n, hn⟩
    · have h1 : (y 1).val < 3584 := (y 1).isLt
      simp only [BandW]
      omega

end Cert.KernelIdeal.Hand

end
-- ==== Proof.ValueFirst.lean ====
/-
What the body stores at the first kind of point, and the run from given contents to these.
-/
module

public import proofs.«01_k».proof.Proof.Held
public import proofs.«01_k».proof.Proof.TripFirst
public import proofs.«01_k».proof.Proof.TripWeights
public import proofs.«01_k».proof.Proof.Weights

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

section
variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)
variable (h1 : k0_cond1 i = 1#1) (h2 : ¬ k0_cond2 i = 1#1) (h3 : ¬ k0_cond3 i = 1#1) (h4 : ¬ k0_cond4 i = 1#1)
include h1 h2 h3 h4

theorem fillFirst10 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) :
    Filled (e := .fp8e4m3) (blkCode (arg1.view.read (Elt Ideal) X1) (arg2.view.read (Elt Ideal) X2)) (runFirst (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X3 X4).1 (fun _ => True) := by
  unfold runFirst
  dsimp only
  exact Filled.mono (t1_code_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X1 X2 16 le_rfl) fun y _ => show (y 0).val < 512 from (y 0).isLt

theorem fillFirst11 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) :
    Filled (e := .f32) (blkScale (arg1.view.read (Elt Ideal) X1) (arg2.view.read (Elt Ideal) X2)) (runFirst (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X3 X4).2.1 (fun _ => True) := by
  unfold runFirst
  dsimp only
  exact Filled.mono (t1_scale_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X1 X2 16 le_rfl) fun y _ => show (y 0).val < 512 from (y 0).isLt

theorem fillFirst12 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) :
    Filled (e := .bf16) (blkDeq (arg1.view.read (Elt Ideal) X1) (arg2.view.read (Elt Ideal) X2)) (runFirst (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X3 X4).2.2.1 (fun _ => True) := by
  unfold runFirst
  dsimp only
  exact Filled.mono (t1_deq_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X1 X2 16 le_rfl) fun y _ => show (y 0).val < 512 from (y 0).isLt

theorem fillFirst14 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) :
    Filled (e := .bf16) (wDeq (arg3.view.read (Elt Ideal) X3) (arg4.view.read (Elt Ideal) X4)) (runFirst (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X3 X4).2.2.2.val (fun _ => True) := by
  unfold runFirst
  dsimp only
  refine Filled.mono (C := fun y => ((y 0).val < 2048 ∨ BandW 2048 64 28 y)) ?_ fun y _ => ?_
  · iterate 28 refine w64_cons (by decide) rfl ?_
    refine Filled.mono (t2_w_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X3 X4 16 le_rfl) fun y hy => ?_
    rcases hy with hy | hy
    · exact hy
    · exact absurd hy.2.2 (Nat.not_lt_zero _)
  · have b0 : (y 0).val < 2112 := (y 0).isLt
    have b1 : (y 1).val < 3584 := (y 1).isLt
    by_cases h : (y 0).val < 2048
    · exact .inl h
    · exact .inr ⟨Nat.le_of_not_lt h, b0, b1⟩

/-- The body from given contents to these. -/
theorem valFirst (d1 : S512x3584.Idx → Elt Ideal .bf16) (d2 : S1x3584.Idx → Elt Ideal .bf16) (d3 : S2112x3584.Idx → Elt Ideal .fp8e4m3) (d4 : S17x28.Idx → Elt Ideal .f32) (d5 : S1x1536.Idx → Elt Ideal .bf16) (d6 : S1x512.Idx → Elt Ideal .bf16) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32) :
    held c arg1 arg2 arg3 arg4 arg5 arg6 arg7 arg8 arg9 arg10 arg11 arg12 arg13 arg14 arg15 d1 d2 d3 d4 d5 d6 d7 d8 d9 d10 d11 d12 d13 d14 d15
      ⊢ wp frame (wpE (defs₀ (F := Ideal)) Variants.none (c : Thread nD τ) none) Set.univ (cc0_mla_a_proj (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(held c arg1 arg2 arg3 arg4 arg5 arg6 arg7 arg8 arg9 arg10 arg11 arg12 arg13 arg14 arg15 d1 d2 d3 d4 d5 d6 d7 d8 d9 (blkCode d1 d2) (blkScale d1 d2) (blkDeq d1 d2) d13 (wDeq d3 d4) d15)) := by
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩
  subst hf1; subst hf2; subst hf3; subst hf4; subst hf5; subst hf6; subst hf7; subst hf8; subst hf9; subst hf10; subst hf11; subst hf12; subst hf13; subst hf14; subst hf15
  iapply wp_wand_r
  isplitl [H1 H2 H3 H4 H10 H11 H12 H14]
  · iapply ((runFirst (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).2.2.2.property Set.univ f10 f11 f12 f14)
    isplitl [H1]; · iexact H1
    isplitl [H2]; · iexact H2
    isplitl [H3]; · iexact H3
    isplitl [H4]; · iexact H4
    isplitl [H10]; · iexact H10
    isplitl [H11]; · iexact H11
    isplitl [H12]; · iexact H12
    iexact H14
  iintro %u ⟨H1, H2, H3, H4, H10, H11, H12, H14⟩
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; exact (fillFirst10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).read (fun _ => trivial) _ _
  isplitl [H11]
  · iexists _; isplitr; swap; · iexact H11
    ipureintro; exact (fillFirst11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).read (fun _ => trivial) _ _
  isplitl [H12]
  · iexists _; isplitr; swap; · iexact H12
    ipureintro; exact (fillFirst12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).read (fun _ => trivial) _ _
  isplitl [H13]
  · iexists _; isplitr; swap; · iexact H13
    ipureintro; rfl
  isplitl [H14]
  · iexists _; isplitr; swap; · iexact H14
    ipureintro; exact (fillFirst14 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f3 f4).read (fun _ => trivial) _ _
  iexists _; isplitr; swap; · iexact H15
  ipureintro; rfl

end

end Cert.KernelIdeal.Hand

end
-- ==== Proof.TripOdd.lean ====
/-
The quantising loop of an odd point: what one trip stores into the codes, the scales and the scratch buffer,
and what all of them leave there.
-/
module

public import proofs.«01_k».proof.Proof.Fill
public import proofs.«01_k».proof.Proof.Gen.KernelIdeal.Loops

@[expose] public section

set_option maxHeartbeats 2000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

theorem t3_rs (h : k0_cond2 i = 1#1) (X1 : BufTy.Contents (Elt Ideal) arg1.view.ty) (k : Fin k0_t3_loop.trips) :
    Normal (arg1.view.read (Elt Ideal) X1) k.val k.isLt (trip_k0_t3.sl.r_4 i arg1 h X1 k) := by
  refine gRs_of (rfl : _ = gRs _) ?_
  unfold trip_k0_t3.sl.r_3 trip_k0_t3.sl.r_2 trip_k0_t3.sl.r_1 trip_k0_t3.sl.r
  unfold k0_pay289 k0_pay288 k0_pay287 k0_pay286
  dsimp only
  iterate 28 refine squares_succ (n := k0_t3_loop.trips) (by decide) ?_ (by decide) (by decide +kernel)
  exact squares_zero _

/-- One trip's code stores, -/
theorem t3_code (h : k0_cond2 i = 1#1) (X1 : BufTy.Contents (Elt Ideal) arg1.view.ty) (X2 : BufTy.Contents (Elt Ideal) arg2.view.ty) (k : Fin k0_t3_loop.trips) :
    Filled (blkCode (arg1.view.read (Elt Ideal) X1) (arg2.view.read (Elt Ideal) X2)) (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).1 (Band k.val 28) := by
  have hrs := t3_rs i arg1 h X1 k
  unfold trip_k0_t3
  dsimp only
  iterate 28 refine code_cons (n := k0_t3_loop.trips) (k := k) (by decide) hrs (by decide +kernel) rfl ?_
  exact Filled.nil fun y hy => by obtain ⟨_, _, hy⟩ := hy; omega

/-- and those of the first `n` trips. -/
theorem t3_code_all (h : k0_cond2 i = 1#1) (X1 : BufTy.Contents (Elt Ideal) arg1.view.ty) (X2 : BufTy.Contents (Elt Ideal) arg2.view.ty) : ∀ n : Nat, n ≤ 16 →
    Filled (blkCode (arg1.view.read (Elt Ideal) X1) (arg2.view.read (Elt Ideal) X2)) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).1 (fun y => (y 0).val < 32 * n)
  | 0, _ => Filled.nil fun y hy => by omega
  | n + 1, hn => by
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).1) (Band n 28) from ?_).append
      (t3_code_all h X1 X2 n (by omega)) fun y hy => ?_
    · unfold tripL_k0_t3
      exact t3_code 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

/-- One trip's scale stores, -/
theorem t3_scale (h : k0_cond2 i = 1#1) (X1 : BufTy.Contents (Elt Ideal) arg1.view.ty) (X2 : BufTy.Contents (Elt Ideal) arg2.view.ty) (k : Fin k0_t3_loop.trips) :
    Filled (blkScale (arg1.view.read (Elt Ideal) X1) (arg2.view.read (Elt Ideal) X2)) (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.1 (BandS k.val 28) := by
  have hrs := t3_rs i arg1 h X1 k
  unfold trip_k0_t3
  dsimp only
  iterate 28 refine scale_cons (n := k0_t3_loop.trips) (k := k) (by decide) hrs (by decide +kernel) rfl ?_
  exact Filled.nil fun y hy => by obtain ⟨_, _, hy⟩ := hy; omega

/-- and those of the first `n` trips. -/
theorem t3_scale_all (h : k0_cond2 i = 1#1) (X1 : BufTy.Contents (Elt Ideal) arg1.view.ty) (X2 : BufTy.Contents (Elt Ideal) arg2.view.ty) : ∀ n : Nat, n ≤ 16 →
    Filled (blkScale (arg1.view.read (Elt Ideal) X1) (arg2.view.read (Elt Ideal) X2)) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.1 (fun y => (y 0).val < 32 * n)
  | 0, _ => Filled.nil fun y hy => by omega
  | n + 1, hn => by
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.1) (BandS n 28) from ?_).append
      (t3_scale_all h X1 X2 n (by omega)) fun y hy => ?_
    · unfold tripL_k0_t3
      exact t3_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 28 := (y 1).isLt
      simp only [BandS]
      omega

/-- One trip's deq stores, -/
theorem t3_deq (h : k0_cond2 i = 1#1) (X1 : BufTy.Contents (Elt Ideal) arg1.view.ty) (X2 : BufTy.Contents (Elt Ideal) arg2.view.ty) (k : Fin k0_t3_loop.trips) :
    Filled (blkDeq (arg1.view.read (Elt Ideal) X1) (arg2.view.read (Elt Ideal) X2)) (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.2.1 (Band k.val 28) := by
  have hrs := t3_rs i arg1 h X1 k
  unfold trip_k0_t3
  dsimp only
  iterate 28 refine deq_cons (n := k0_t3_loop.trips) (k := k) (by decide) hrs (by decide +kernel) rfl ?_
  exact Filled.nil fun y hy => by obtain ⟨_, _, hy⟩ := hy; omega

/-- and those of the first `n` trips. -/
theorem t3_deq_all (h : k0_cond2 i = 1#1) (X1 : BufTy.Contents (Elt Ideal) arg1.view.ty) (X2 : BufTy.Contents (Elt Ideal) arg2.view.ty) : ∀ n : Nat, n ≤ 16 →
    Filled (blkDeq (arg1.view.read (Elt Ideal) X1) (arg2.view.read (Elt Ideal) X2)) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.2 (fun y => (y 0).val < 32 * n)
  | 0, _ => Filled.nil fun y hy => by omega
  | n + 1, hn => by
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.2) (Band n 28) from ?_).append
      (t3_deq_all h X1 X2 n (by omega)) fun y hy => ?_
    · unfold tripL_k0_t3
      exact t3_deq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

end Cert.KernelIdeal.Hand

end
-- ==== Proof.ProjRows.lean ====
/-
The projection of one dequantised row: its products with the rows of the weights, and the two normalised parts.
-/
module

public import proofs.«01_k».proof.Proof.Rows

@[expose] public section

noncomputable section

namespace Cert.Math

open Idealize.ShloMosaic

/-- The product of the row with one row of the weights. -/
def rowY (x : Fin 3584 → EReal) (W : Fin 2112 → Fin 3584 → EReal) (n : Fin 2112) : EReal := ∑ k : Fin 3584, x k * W n k

/-- One over the root of a mean square plus epsilon: the sum of squares `s` over the word `b` of the number of terms. -/
def rsBy (b : BitVec 32) (s : EReal) : EReal :=
  Ideal.rsqrt (Ideal.div s (Ideal.ofBits .f32 b) + Ideal.ofBits .f32 0x358637BD#32)

/-- The outputs of the first part, -/
def outQ (n : Fin 1536) : Fin 2112 := ⟨n.val, by omega⟩
/-- of the second -/
def outKV (n : Fin 512) : Fin 2112 := ⟨1536 + n.val, by omega⟩
/-- and of the third. -/
def outPE (n : Fin 64) : Fin 2112 := ⟨2048 + n.val, by omega⟩

/-- The first part normalised, -/
def rowQ (x : Fin 3584 → EReal) (W : Fin 2112 → Fin 3584 → EReal) (γ : Fin 1536 → EReal) (n : Fin 1536) : EReal :=
  rowY x W (outQ n) * rsBy 0x44C00000#32 (∑ j : Fin 1536, rowY x W (outQ j) * rowY x W (outQ j)) * γ n
/-- the second part normalised, -/
def rowKV (x : Fin 3584 → EReal) (W : Fin 2112 → Fin 3584 → EReal) (γ : Fin 512 → EReal) (n : Fin 512) : EReal :=
  rowY x W (outKV n) * rsBy 0x44000000#32 (∑ j : Fin 512, rowY x W (outKV j) * rowY x W (outKV j)) * γ n
/-- and the third as it is. -/
def rowPE (x : Fin 3584 → EReal) (W : Fin 2112 → Fin 3584 → EReal) (n : Fin 64) : EReal := rowY x W (outPE n)

/-- Entry `n` of tile `j` of the first part. -/
def tile (j : Fin 3) (n : Fin 512) : Fin 1536 := ⟨512 * j.val + n.val, by omega⟩

/-- A sum over the first part, tile by tile. -/
theorem sum_tiles (f : Fin 1536 → EReal) :
    (∑ n : Fin 512, f (tile 0 n)) + (∑ n : Fin 512, f (tile 1 n)) + ∑ n : Fin 512, f (tile 2 n) = ∑ n : Fin 1536, f n := by
  have h := Fin.sum_univ_add (a := 512 + 512) (b := 512) f
  have h' := Fin.sum_univ_add (a := 512) (b := 512) fun n => f (Fin.castAdd 512 n)
  refine Eq.trans ?_ (h.trans (congrArg (· + _) h')).symm
  refine congrArg₂ _ (congrArg₂ _ ?_ ?_) ?_ <;>
  · refine Finset.sum_congr rfl fun n _ => congrArg f (Fin.ext ?_)
    simp only [tile, Fin.val_natAdd, Fin.val_castAdd]
    simp

end Cert.Math

end
-- ==== Proof.Project.lean ====
/-
The projection of a block: the tiles of the first part, their normaliser, and the three stored results, each filled
with one function of the dequantised block, the dequantised weights and the weights of the normalisation.
-/
module

public import proofs.«01_k».proof.Proof.ProjRows
public import proofs.«01_k».proof.Proof.Fill

@[expose] public section

set_option maxRecDepth 65536

noncomputable section

namespace Cert.KernelIdeal.Hand

open Cert.KernelIdeal Cert.KernelIdeal.Gen Cert.Math
open Idealize.ShloMosaic

/-- The first part of a block's projection, normalised, -/
def blkQ (D : S512x3584.Idx → EReal) (W : S2112x3584.Idx → EReal) (Γ : S1x1536.Idx → EReal) (y : S512x1536.Idx) : EReal :=
  rowQ (rowAt D (y 0)) (fun n k => W (ix2 n k)) (fun j => Γ (ix2 0 j)) (y 1)
/-- the second, -/
def blkKV (D : S512x3584.Idx → EReal) (W : S2112x3584.Idx → EReal) (Γ : S1x512.Idx → EReal) (y : S512x512.Idx) : EReal :=
  rowKV (rowAt D (y 0)) (fun n k => W (ix2 n k)) (fun j => Γ (ix2 0 j)) (y 1)
/-- and the third as it is. -/
def blkPE (D : S512x3584.Idx → EReal) (W : S2112x3584.Idx → EReal) (y : S512x64.Idx) : EReal :=
  rowPE (rowAt D (y 0)) (fun n k => W (ix2 n k)) (y 1)

theorem tile_apply (x w : Vec Ideal S512x3584 .bf16) (r n : Fin 512) :
    k0_pay738 x w (ix2 r n) = ∑ k : Fin 3584, x (ix2 r k) * w (ix2 n k) := by
  pointwise [k0_pay738]

theorem stored_apply (x w : Vec Ideal S512x3584 .bf16) (y : S512x512.Idx) : k0_pay739 x w y = k0_pay738 x w y := by
  pointwise [k0_pay739]

theorem pe_apply (x : Vec Ideal S512x3584 .bf16) (w : Vec Ideal S64x3584 .bf16) (r : Fin 512) (n : Fin 64) :
    k0_pay3 x w (ix2 r n) = ∑ k : Fin 3584, x (ix2 r k) * w (ix2 n k) := by
  pointwise [k0_pay3]

theorem rs_apply (x w0 w1 w2 : Vec Ideal S512x3584 .bf16) (r : Fin 512) :
    k0_pay744 x w0 w1 w2 (ix2 r 0) = rsBy 0x44C00000#32
      (∑ n, k0_pay738 x w0 (ix2 r n) * k0_pay738 x w0 (ix2 r n) + ∑ n, k0_pay738 x w1 (ix2 r n) * k0_pay738 x w1 (ix2 r n)
        + ∑ n, k0_pay738 x w2 (ix2 r n) * k0_pay738 x w2 (ix2 r n)) := by
  pointwise [k0_pay744]
  rfl

theorem q_apply (x : FVec Ideal S512x1 .f32) (y : Vec Ideal S512x1536 .f32) (z : Vec Ideal S1x1536 .bf16) (r : Fin 512) (n : Fin 1536) :
    k0_pay1 x y z (ix2 r n) = y (ix2 r n) * x (ix2 r 0) * z (ix2 0 n) := by
  pointwise [k0_pay1]

theorem kv_apply (x y : Vec Ideal S512x3584 .bf16) (z : Vec Ideal S1x512 .bf16) (r : Fin 512) (n : Fin 512) :
    k0_pay2 x y z (ix2 r n) = (∑ k : Fin 3584, x (ix2 r k) * y (ix2 n k))
      * rsBy 0x44000000#32 (∑ m, (∑ k : Fin 3584, x (ix2 r k) * y (ix2 m k)) * ∑ k : Fin 3584, x (ix2 r k) * y (ix2 m k)) * z (ix2 0 n) := by
  pointwise [k0_pay2]
  rfl

variable {A : Memref sig .tc .vmem S512x3584 .bf16} {B : Memref sig .tc .vmem S2112x3584 .bf16}
variable {C : Memref sig .tc .vmem S1x1536 .bf16} {C' : Memref sig .tc .vmem S1x512 .bf16} {Y : Memref sig .tc .vmem S512x1536 .f32}
variable {XA : BufTy.Contents (Elt Ideal) A.view.ty} {XB : BufTy.Contents (Elt Ideal) B.view.ty}
variable {XC : BufTy.Contents (Elt Ideal) C.view.ty} {XC' : BufTy.Contents (Elt Ideal) C'.view.ty}

/-- A load of everything reads everything. -/
theorem whole_apply {κ : Kind} {sp : Space} {m n : Nat} {e : EltTy} (v : View sig κ sp ⟨2, ![m, n]⟩ e) (X : v.ty.Contents (Elt Ideal))
    {inb : ∀ a, (![0, 0] : Fin 2 → ℕ) a + (⟨2, ![m, n]⟩ : Shape).size a ≤ (⟨2, ![m, n]⟩ : Shape).size a} (y : (⟨2, ![m, n]⟩ : Shape).Idx) :
    v.readAt (Elt Ideal) (Rect.unit (s := ⟨2, ![m, n]⟩) ![0, 0] (⟨2, ![m, n]⟩ : Shape).size inb).toLoadRect X y = v.read (Elt Ideal) X y := by
  refine View.ld_unit_apply_of (Val := Elt Ideal) (v.read (Elt Ideal) X) ![0, 0] (⟨2, ![m, n]⟩ : Shape).size inb y y ?_
  intro a
  match a with
  | 0 => exact (Nat.zero_add _).symm
  | 1 => exact (Nat.zero_add _).symm

/-- Rows of the weights. -/
theorem rows_apply {m o : Nat} {inb : ∀ a, (![o, 0] : Fin 2 → ℕ) a + (⟨2, ![m, 3584]⟩ : Shape).size a ≤ S2112x3584.size a}
    (r : Fin m) (r' : Fin 2112) (hr : r'.val = o + r.val) (k : Fin 3584) :
    B.view.readAt (Elt Ideal) (Rect.unit (s := S2112x3584) ![o, 0] (⟨2, ![m, 3584]⟩ : Shape).size inb).toLoadRect XB (ix2 r k)
      = B.view.read (Elt Ideal) XB (ix2 r' k) := by
  refine View.ld_unit_apply_of (Val := Elt Ideal) (B.view.read (Elt Ideal) XB) ![o, 0] (⟨2, ![m, 3584]⟩ : Shape).size inb (ix2 r k) (ix2 r' k) ?_
  intro a
  match a with
  | 0 => exact hr
  | 1 => exact (Nat.zero_add _).symm

/-- A store of everything fills everything. -/
theorem Filled.whole {m n : Nat} {e : EltTy} {G : (⟨2, ![m, n]⟩ : Shape).Idx → Elt Ideal e}
    {inb : ∀ a, (![0, 0] : Fin 2 → ℕ) a + (⟨2, ![m, n]⟩ : Shape).size a ≤ (⟨2, ![m, n]⟩ : Shape).size a}
    {P : (⟨2, ![m, n]⟩ : Shape).Idx → Elt Ideal e} (h : ∀ (r : Fin m) (l : Fin n), P (ix2 r l) = G (ix2 r l)) :
    Filled G [⟨Rect.unit (s := ⟨2, ![m, n]⟩) ![0, 0] (⟨2, ![m, n]⟩ : Shape).size inb, P⟩] (fun _ => True) := by
  have h' : ∀ y : (⟨2, ![m, n]⟩ : Shape).Idx, P y = G y := fun y => ix2_eta y ▸ h (y 0) (y 1)
  refine Filled.cons (L := []) (C := fun _ => False) (fun x => Eq.trans (h' x) (congrArg G ?_)) (Filled.nil fun _ => id) fun y _ => .inl ?_
  · funext a
    apply Fin.ext
    match a with
    | 0 => exact (Rect.idx_unit_val (s := ⟨2, ![m, n]⟩) ![0, 0] (⟨2, ![m, n]⟩ : Shape).size inb x 0).trans (Nat.zero_add _) |>.symm
    | 1 => exact (Rect.idx_unit_val (s := ⟨2, ![m, n]⟩) ![0, 0] (⟨2, ![m, n]⟩ : Shape).size inb x 1).trans (Nat.zero_add _) |>.symm
  · refine (Rect.mem_set_unit (inb := inb)).mpr fun a => ?_
    match a with
    | 0 => exact ⟨Nat.zero_le _, by have := (y 0).isLt; simpa using this⟩
    | 1 => exact ⟨Nat.zero_le _, by have := (y 1).isLt; simpa using this⟩

variable (A XA) in
/-- The block loaded whole, -/
abbrev ldA {inb : ∀ a, (![0, 0] : Fin 2 → ℕ) a + S512x3584.size a ≤ S512x3584.size a} : Vec Ideal S512x3584 .bf16 :=
  A.view.readAt (Elt Ideal) (Rect.unit (s := S512x3584) ![0, 0] S512x3584.size inb).toLoadRect XA
variable (B XB) in
/-- and 512 rows of the weights. -/
abbrev ldB (o : Nat) {inb : ∀ a, (![o, 0] : Fin 2 → ℕ) a + S512x3584.size a ≤ S2112x3584.size a} : Vec Ideal S512x3584 .bf16 :=
  B.view.readAt (Elt Ideal) (Rect.unit (s := S2112x3584) ![o, 0] S512x3584.size inb).toLoadRect XB

theorem dot_eq {ia : ∀ a, (![0, 0] : Fin 2 → ℕ) a + S512x3584.size a ≤ S512x3584.size a} {o : Nat}
    {ib : ∀ a, (![o, 0] : Fin 2 → ℕ) a + S512x3584.size a ≤ S2112x3584.size a} (r n : Fin 512) (n' : Fin 2112) (hn : n'.val = o + n.val) :
    ∑ k : Fin 3584, ldA A XA (inb := ia) (ix2 r k) * ldB B XB o (inb := ib) (ix2 n k)
      = rowY (rowAt (A.view.read (Elt Ideal) XA) r) (fun n k => B.view.read (Elt Ideal) XB (ix2 n k)) n' :=
  Finset.sum_congr rfl fun k _ => congrArg₂ _ (whole_apply A.view XA (ix2 r k)) (rows_apply n n' hn k)

/-- The stored tiles of the first part are its projection. -/
theorem tiles_fill {ia : ∀ a, (![0, 0] : Fin 2 → ℕ) a + S512x3584.size a ≤ S512x3584.size a}
    {i0 : ∀ a, (![0, 0] : Fin 2 → ℕ) a + S512x3584.size a ≤ S2112x3584.size a}
    {i1 : ∀ a, (![512, 0] : Fin 2 → ℕ) a + S512x3584.size a ≤ S2112x3584.size a}
    {i2 : ∀ a, (![1024, 0] : Fin 2 → ℕ) a + S512x3584.size a ≤ S2112x3584.size a}
    {j0 : ∀ a, (![0, 0] : Fin 2 → ℕ) a + S512x512.size a ≤ S512x1536.size a}
    {j1 : ∀ a, (![0, 512] : Fin 2 → ℕ) a + S512x512.size a ≤ S512x1536.size a}
    {j2 : ∀ a, (![0, 1024] : Fin 2 → ℕ) a + S512x512.size a ≤ S512x1536.size a} :
    Filled (e := .f32) (fun y : S512x1536.Idx => rowY (rowAt (A.view.read (Elt Ideal) XA) (y 0)) (fun n k => B.view.read (Elt Ideal) XB (ix2 n k)) (outQ (y 1)))
      [⟨Rect.unit (s := S512x1536) ![0, 1024] S512x512.size j2, k0_pay739 (ldA A XA (inb := ia)) (ldB B XB 1024 (inb := i2))⟩,
       ⟨Rect.unit (s := S512x1536) ![0, 512] S512x512.size j1, k0_pay739 (ldA A XA (inb := ia)) (ldB B XB 512 (inb := i1))⟩,
       ⟨Rect.unit (s := S512x1536) ![0, 0] S512x512.size j0, k0_pay739 (ldA A XA (inb := ia)) (ldB B XB 0 (inb := i0))⟩] (fun _ => True) := by
  have key : ∀ (o : Nat) (ib : ∀ a, (![o, 0] : Fin 2 → ℕ) a + S512x3584.size a ≤ S2112x3584.size a)
      (j : ∀ a, (![0, o] : Fin 2 → ℕ) a + S512x512.size a ≤ S512x1536.size a) (x : S512x512.Idx),
      k0_pay739 (ldA A XA (inb := ia)) (ldB B XB o (inb := ib)) x = rowY (rowAt (A.view.read (Elt Ideal) XA) ((Rect.unit (s := S512x1536) ![0, o] S512x512.size j).emb x 0))
        (fun n k => B.view.read (Elt Ideal) XB (ix2 n k)) (outQ ((Rect.unit (s := S512x1536) ![0, o] S512x512.size j).emb x 1)) := by
    intro o ib j x
    have e0 : (Rect.unit (s := S512x1536) ![0, o] S512x512.size j).emb x 0 = x 0 :=
      Fin.ext ((Rect.idx_unit_val (s := S512x1536) ![0, o] S512x512.size j x 0).trans (Nat.zero_add _))
    have e1 : ((Rect.unit (s := S512x1536) ![0, o] S512x512.size j).emb x 1).val = o + (x 1).val := Rect.idx_unit_val (s := S512x1536) ![0, o] S512x512.size j x 1
    rw [e0, stored_apply]
    refine Eq.trans (Eq.trans (congrArg _ (ix2_eta x).symm) (tile_apply _ _ (x 0) (x 1))) ?_
    exact dot_eq (x 0) (x 1) (outQ _) e1
  refine Filled.cons (C := fun y => (y 1).val < 1024) (key 1024 i2 j2) (Filled.cons (C := fun y => (y 1).val < 512) (key 512 i1 j1)
    (Filled.cons (C := fun _ => False) (key 0 i0 j0) (Filled.nil fun _ => id) ?_) ?_) ?_
  all_goals
    intro y hy
    have b0 : (y 0).val < 512 := (y 0).isLt
    have b1 : (y 1).val < 1536 := (y 1).isLt
  · refine .inl ((Rect.mem_set_unit (inb := j0)).mpr fun a => ?_)
    match a with
    | 0 => exact ⟨Nat.zero_le _, by simpa using b0⟩
    | 1 => exact ⟨Nat.zero_le _, by simpa using hy⟩
  · by_cases h : (y 1).val < 512
    · exact .inr h
    · refine .inl ((Rect.mem_set_unit (inb := j1)).mpr fun a => ?_)
      match a with
      | 0 => exact ⟨Nat.zero_le _, by simpa using b0⟩
      | 1 => exact ⟨by simpa using h, by simpa using hy⟩
  · by_cases h : (y 1).val < 1024
    · exact .inr h
    · refine .inl ((Rect.mem_set_unit (inb := j2)).mpr fun a => ?_)
      match a with
      | 0 => exact ⟨Nat.zero_le _, by simpa using b0⟩
      | 1 => exact ⟨by simpa using h, by simpa using b1⟩

/-- The first result of a projecting point, -/
theorem q_fill {ia : ∀ a, (![0, 0] : Fin 2 → ℕ) a + S512x3584.size a ≤ S512x3584.size a}
    {i0 : ∀ a, (![0, 0] : Fin 2 → ℕ) a + S512x3584.size a ≤ S2112x3584.size a}
    {i1 : ∀ a, (![512, 0] : Fin 2 → ℕ) a + S512x3584.size a ≤ S2112x3584.size a}
    {i2 : ∀ a, (![1024, 0] : Fin 2 → ℕ) a + S512x3584.size a ≤ S2112x3584.size a}
    {j0 : ∀ a, (![0, 0] : Fin 2 → ℕ) a + S512x512.size a ≤ S512x1536.size a}
    {j1 : ∀ a, (![0, 512] : Fin 2 → ℕ) a + S512x512.size a ≤ S512x1536.size a}
    {j2 : ∀ a, (![0, 1024] : Fin 2 → ℕ) a + S512x512.size a ≤ S512x1536.size a}
    {iy : ∀ a, (![0, 0] : Fin 2 → ℕ) a + S512x1536.size a ≤ S512x1536.size a}
    {ic : ∀ a, (![0, 0] : Fin 2 → ℕ) a + S1x1536.size a ≤ S1x1536.size a} {P : FVec Ideal S512x1536 .bf16}
    (e : P = k0_pay1 (k0_pay744 (ldA A XA (inb := ia)) (ldB B XB 0 (inb := i0)) (ldB B XB 512 (inb := i1)) (ldB B XB 1024 (inb := i2)))
      (Y.view.readCov [⟨Rect.unit (s := S512x1536) ![0, 1024] S512x512.size j2, k0_pay739 (ldA A XA (inb := ia)) (ldB B XB 1024 (inb := i2))⟩,
         ⟨Rect.unit (s := S512x1536) ![0, 512] S512x512.size j1, k0_pay739 (ldA A XA (inb := ia)) (ldB B XB 512 (inb := i1))⟩,
         ⟨Rect.unit (s := S512x1536) ![0, 0] S512x512.size j0, k0_pay739 (ldA A XA (inb := ia)) (ldB B XB 0 (inb := i0))⟩]
        (Rect.unit (s := S512x1536) ![0, 0] S512x1536.size iy).toLoadRect)
      (C.view.readAt (Elt Ideal) (Rect.unit (s := S1x1536) ![0, 0] S1x1536.size ic).toLoadRect XC)) :
    Filled (e := .bf16) (blkQ (A.view.read (Elt Ideal) XA) (B.view.read (Elt Ideal) XB) (C.view.read (Elt Ideal) XC))
      [⟨Rect.unit (s := S512x1536) ![0, 0] S512x1536.size iy, P⟩] (fun _ => True) := by
  subst e
  refine Filled.whole fun r l => ?_
  rw [q_apply, rs_apply, View.readCov, whole_apply, whole_apply, (tiles_fill (A := A) (B := B) (XA := XA) (XB := XB)).read (fun _ => trivial)]
  refine congrArg₂ _ (congrArg₂ _ rfl (congrArg _ ?_)) rfl
  refine Eq.trans ?_ (sum_tiles _)
  simp only [tile_apply]
  refine congrArg₂ _ (congrArg₂ _ ?_ ?_) ?_ <;> refine Finset.sum_congr rfl fun n _ => ?_
  · exact congrArg₂ _ (dot_eq r n (outQ (tile 0 n)) rfl) (dot_eq r n (outQ (tile 0 n)) rfl)
  · exact congrArg₂ _ (dot_eq r n (outQ (tile 1 n)) rfl) (dot_eq r n (outQ (tile 1 n)) rfl)
  · exact congrArg₂ _ (dot_eq r n (outQ (tile 2 n)) rfl) (dot_eq r n (outQ (tile 2 n)) rfl)

/-- the second, -/
theorem kv_fill {ia : ∀ a, (![0, 0] : Fin 2 → ℕ) a + S512x3584.size a ≤ S512x3584.size a}
    {i3 : ∀ a, (![1536, 0] : Fin 2 → ℕ) a + S512x3584.size a ≤ S2112x3584.size a}
    {iy : ∀ a, (![0, 0] : Fin 2 → ℕ) a + S512x512.size a ≤ S512x512.size a}
    {ic : ∀ a, (![0, 0] : Fin 2 → ℕ) a + S1x512.size a ≤ S1x512.size a} {P : FVec Ideal S512x512 .bf16}
    (e : P = k0_pay2 (ldA A XA (inb := ia)) (ldB B XB 1536 (inb := i3))
      (C'.view.readAt (Elt Ideal) (Rect.unit (s := S1x512) ![0, 0] S1x512.size ic).toLoadRect XC')) :
    Filled (e := .bf16) (blkKV (A.view.read (Elt Ideal) XA) (B.view.read (Elt Ideal) XB) (C'.view.read (Elt Ideal) XC'))
      [⟨Rect.unit (s := S512x512) ![0, 0] S512x512.size iy, P⟩] (fun _ => True) := by
  subst e
  refine Filled.whole fun r l => ?_
  rw [kv_apply, whole_apply]
  refine congrArg₂ _ (congrArg₂ _ (dot_eq r l (outKV l) rfl) (congrArg _ ?_)) rfl
  refine Finset.sum_congr rfl fun n _ => ?_
  exact congrArg₂ _ (dot_eq r n (outKV n) rfl) (dot_eq r n (outKV n) rfl)

/-- and the third. -/
theorem pe_fill {ia : ∀ a, (![0, 0] : Fin 2 → ℕ) a + S512x3584.size a ≤ S512x3584.size a}
    {i4 : ∀ a, (![2048, 0] : Fin 2 → ℕ) a + S64x3584.size a ≤ S2112x3584.size a}
    {iy : ∀ a, (![0, 0] : Fin 2 → ℕ) a + S512x64.size a ≤ S512x64.size a} {P : FVec Ideal S512x64 .bf16}
    (e : P = k0_pay3 (ldA A XA (inb := ia)) (B.view.readAt (Elt Ideal) (Rect.unit (s := S2112x3584) ![2048, 0] S64x3584.size i4).toLoadRect XB)) :
    Filled (e := .bf16) (blkPE (A.view.read (Elt Ideal) XA) (B.view.read (Elt Ideal) XB))
      [⟨Rect.unit (s := S512x64) ![0, 0] S512x64.size iy, P⟩] (fun _ => True) := by
  subst e
  refine Filled.whole fun r l => ?_
  rw [pe_apply]
  exact Finset.sum_congr rfl fun k _ => congrArg₂ _ (whole_apply A.view XA (ix2 r k)) (rows_apply l (outPE l) rfl k)

end Cert.KernelIdeal.Hand

end
-- ==== Proof.ValueOdd.lean ====
/-
What the body stores at the odd kind of point, and the run from given contents to these.
-/
module

public import proofs.«01_k».proof.Proof.Held
public import proofs.«01_k».proof.Proof.TripOdd
public import proofs.«01_k».proof.Proof.Project

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

section
variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)
variable (h1 : ¬ k0_cond1 i = 1#1) (h2 : k0_cond2 i = 1#1) (h3 : ¬ k0_cond3 i = 1#1) (h4 : ¬ k0_cond4 i = 1#1)
include h1 h2 h3 h4

theorem fillOdd7 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .bf16) (blkQ (arg12.view.read (Elt Ideal) X12) (arg14.view.read (Elt Ideal) X14) (arg5.view.read (Elt Ideal) X5)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).1 (fun _ => True) := by
  unfold runOdd
  dsimp only
  exact q_fill rfl

theorem fillOdd8 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .bf16) (blkKV (arg12.view.read (Elt Ideal) X12) (arg14.view.read (Elt Ideal) X14) (arg6.view.read (Elt Ideal) X6)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).2.1 (fun _ => True) := by
  unfold runOdd
  dsimp only
  exact kv_fill rfl

theorem fillOdd9 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .bf16) (blkPE (arg12.view.read (Elt Ideal) X12) (arg14.view.read (Elt Ideal) X14)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).2.2.1 (fun _ => True) := by
  unfold runOdd
  dsimp only
  exact pe_fill rfl

theorem fillOdd10 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .fp8e4m3) (blkCode (arg1.view.read (Elt Ideal) X1) (arg2.view.read (Elt Ideal) X2)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).2.2.2.1 (fun _ => True) := by
  unfold runOdd
  dsimp only
  exact Filled.mono (t3_code_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h2 X1 X2 16 le_rfl) fun y _ => show (y 0).val < 512 from (y 0).isLt

theorem fillOdd11 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .f32) (blkScale (arg1.view.read (Elt Ideal) X1) (arg2.view.read (Elt Ideal) X2)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).2.2.2.2.1 (fun _ => True) := by
  unfold runOdd
  dsimp only
  exact Filled.mono (t3_scale_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h2 X1 X2 16 le_rfl) fun y _ => show (y 0).val < 512 from (y 0).isLt

theorem fillOdd13 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X12 : BufTy.Contents (Elt Ideal) arg12.view.ty) (X14 : BufTy.Contents (Elt Ideal) arg14.view.ty) :
    Filled (e := .bf16) (blkDeq (arg1.view.read (Elt Ideal) X1) (arg2.view.read (Elt Ideal) X2)) (runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X12 X14).2.2.2.2.2.1 (fun _ => True) := by
  unfold runOdd
  dsimp only
  exact Filled.mono (t3_deq_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h2 X1 X2 16 le_rfl) fun y _ => show (y 0).val < 512 from (y 0).isLt

/-- The body from given contents to these. -/
theorem valOdd (d1 : S512x3584.Idx → Elt Ideal .bf16) (d2 : S1x3584.Idx → Elt Ideal .bf16) (d3 : S2112x3584.Idx → Elt Ideal .fp8e4m3) (d4 : S17x28.Idx → Elt Ideal .f32) (d5 : S1x1536.Idx → Elt Ideal .bf16) (d6 : S1x512.Idx → Elt Ideal .bf16) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32) :
    held c arg1 arg2 arg3 arg4 arg5 arg6 arg7 arg8 arg9 arg10 arg11 arg12 arg13 arg14 arg15 d1 d2 d3 d4 d5 d6 d7 d8 d9 d10 d11 d12 d13 d14 d15
      ⊢ wp frame (wpE (defs₀ (F := Ideal)) Variants.none (c : Thread nD τ) none) Set.univ (cc0_mla_a_proj (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ e15, held c arg1 arg2 arg3 arg4 arg5 arg6 arg7 arg8 arg9 arg10 arg11 arg12 arg13 arg14 arg15 d1 d2 d3 d4 d5 d6 (blkQ d12 d14 d5) (blkKV d12 d14 d6) (blkPE d12 d14) (blkCode d1 d2) (blkScale d1 d2) d12 (blkDeq d1 d2) d14 e15)) := by
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩
  subst hf1; subst hf2; subst hf3; subst hf4; subst hf5; subst hf6; subst hf7; subst hf8; subst hf9; subst hf10; subst hf11; subst hf12; subst hf13; subst hf14; subst hf15
  iapply wp_wand_r
  isplitl [H1 H2 H5 H6 H12 H14 H7 H8 H9 H10 H11 H13 H15]
  · iapply ((runOdd (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).2.2.2.2.2.2.property Set.univ f7 f8 f9 f10 f11 f13 f15)
    isplitl [H1]; · iexact H1
    isplitl [H2]; · iexact H2
    isplitl [H5]; · iexact H5
    isplitl [H6]; · iexact H6
    isplitl [H12]; · iexact H12
    isplitl [H14]; · iexact H14
    isplitl [H7]; · iexact H7
    isplitl [H8]; · iexact H8
    isplitl [H9]; · iexact H9
    isplitl [H10]; · iexact H10
    isplitl [H11]; · iexact H11
    isplitl [H13]; · iexact H13
    iexact H15
  iintro %u ⟨H1, H2, H5, H6, H12, H14, H7, H8, H9, H10, H11, H13, H15⟩
  iexists _
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact (fillOdd7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H8]
  · iexists _; isplitr; swap; · iexact H8
    ipureintro; exact (fillOdd8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H9]
  · iexists _; isplitr; swap; · iexact H9
    ipureintro; exact (fillOdd9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H10]
  · iexists _; isplitr; swap; · iexact H10
    ipureintro; exact (fillOdd10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H11]
  · iexists _; isplitr; swap; · iexact H11
    ipureintro; exact (fillOdd11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H12]
  · iexists _; isplitr; swap; · iexact H12
    ipureintro; rfl
  isplitl [H13]
  · iexists _; isplitr; swap; · iexact H13
    ipureintro; exact (fillOdd13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f12 f14).read (fun _ => trivial) _ _
  isplitl [H14]
  · iexists _; isplitr; swap; · iexact H14
    ipureintro; rfl
  iexists _; isplitr; swap; · iexact H15
  ipureintro; rfl

end

end Cert.KernelIdeal.Hand

end
-- ==== Proof.TripEven.lean ====
/-
The quantising loop of an even point: what one trip stores into the codes, the scales and the scratch buffer,
and what all of them leave there.
-/
module

public import proofs.«01_k».proof.Proof.Fill
public import proofs.«01_k».proof.Proof.Gen.KernelIdeal.Loops

@[expose] public section

set_option maxHeartbeats 2000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic

variable (𝒱 : Variants) (c : Dev nD) (bd : Option 𝒱.V) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)

theorem t4_rs (h : k0_cond3 i = 1#1) (X1 : BufTy.Contents (Elt Ideal) arg1.view.ty) (k : Fin k0_t4_loop.trips) :
    Normal (arg1.view.read (Elt Ideal) X1) k.val k.isLt (trip_k0_t4.sl.r_4 i arg1 h X1 k) := by
  refine gRs_of (rfl : _ = gRs _) ?_
  unfold trip_k0_t4.sl.r_3 trip_k0_t4.sl.r_2 trip_k0_t4.sl.r_1 trip_k0_t4.sl.r
  unfold k0_pay515 k0_pay514 k0_pay513 k0_pay512
  dsimp only
  iterate 28 refine squares_succ (n := k0_t4_loop.trips) (by decide) ?_ (by decide) (by decide +kernel)
  exact squares_zero _

/-- One trip's code stores, -/
theorem t4_code (h : k0_cond3 i = 1#1) (X1 : BufTy.Contents (Elt Ideal) arg1.view.ty) (X2 : BufTy.Contents (Elt Ideal) arg2.view.ty) (k : Fin k0_t4_loop.trips) :
    Filled (blkCode (arg1.view.read (Elt Ideal) X1) (arg2.view.read (Elt Ideal) X2)) (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).1 (Band k.val 28) := by
  have hrs := t4_rs i arg1 h X1 k
  unfold trip_k0_t4
  dsimp only
  iterate 28 refine code_cons (n := k0_t4_loop.trips) (k := k) (by decide) hrs (by decide +kernel) rfl ?_
  exact Filled.nil fun y hy => by obtain ⟨_, _, hy⟩ := hy; omega

/-- and those of the first `n` trips. -/
theorem t4_code_all (h : k0_cond3 i = 1#1) (X1 : BufTy.Contents (Elt Ideal) arg1.view.ty) (X2 : BufTy.Contents (Elt Ideal) arg2.view.ty) : ∀ n : Nat, n ≤ 16 →
    Filled (blkCode (arg1.view.read (Elt Ideal) X1) (arg2.view.read (Elt Ideal) X2)) (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).1 (fun y => (y 0).val < 32 * n)
  | 0, _ => Filled.nil fun y hy => by omega
  | n + 1, hn => by
    have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).1) (Band n 28) from ?_).append
      (t4_code_all h X1 X2 n (by omega)) fun y hy => ?_
    · unfold tripL_k0_t4
      exact t4_code 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

/-- One trip's scale stores, -/
theorem t4_scale (h : k0_cond3 i = 1#1) (X1 : BufTy.Contents (Elt Ideal) arg1.view.ty) (X2 : BufTy.Contents (Elt Ideal) arg2.view.ty) (k : Fin k0_t4_loop.trips) :
    Filled (blkScale (arg1.view.read (Elt Ideal) X1) (arg2.view.read (Elt Ideal) X2)) (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.1 (BandS k.val 28) := by
  have hrs := t4_rs i arg1 h X1 k
  unfold trip_k0_t4
  dsimp only
  iterate 28 refine scale_cons (n := k0_t4_loop.trips) (k := k) (by decide) hrs (by decide +kernel) rfl ?_
  exact Filled.nil fun y hy => by obtain ⟨_, _, hy⟩ := hy; omega

/-- and those of the first `n` trips. -/
theorem t4_scale_all (h : k0_cond3 i = 1#1) (X1 : BufTy.Contents (Elt Ideal) arg1.view.ty) (X2 : BufTy.Contents (Elt Ideal) arg2.view.ty) : ∀ n : Nat, n ≤ 16 →
    Filled (blkScale (arg1.view.read (Elt Ideal) X1) (arg2.view.read (Elt Ideal) X2)) (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.1 (fun y => (y 0).val < 32 * n)
  | 0, _ => Filled.nil fun y hy => by omega
  | n + 1, hn => by
    have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.1) (BandS n 28) from ?_).append
      (t4_scale_all h X1 X2 n (by omega)) fun y hy => ?_
    · unfold tripL_k0_t4
      exact t4_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 28 := (y 1).isLt
      simp only [BandS]
      omega

/-- One trip's deq stores, -/
theorem t4_deq (h : k0_cond3 i = 1#1) (X1 : BufTy.Contents (Elt Ideal) arg1.view.ty) (X2 : BufTy.Contents (Elt Ideal) arg2.view.ty) (k : Fin k0_t4_loop.trips) :
    Filled (blkDeq (arg1.view.read (Elt Ideal) X1) (arg2.view.read (Elt Ideal) X2)) (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 k).2.2.1 (Band k.val 28) := by
  have hrs := t4_rs i arg1 h X1 k
  unfold trip_k0_t4
  dsimp only
  iterate 28 refine deq_cons (n := k0_t4_loop.trips) (k := k) (by decide) hrs (by decide +kernel) rfl ?_
  exact Filled.nil fun y hy => by obtain ⟨_, _, hy⟩ := hy; omega

/-- and those of the first `n` trips. -/
theorem t4_deq_all (h : k0_cond3 i = 1#1) (X1 : BufTy.Contents (Elt Ideal) arg1.view.ty) (X2 : BufTy.Contents (Elt Ideal) arg2.view.ty) : ∀ n : Nat, n ≤ 16 →
    Filled (blkDeq (arg1.view.read (Elt Ideal) X1) (arg2.view.read (Elt Ideal) X2)) (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 n).2.2 (fun y => (y 0).val < 32 * n)
  | 0, _ => Filled.nil fun y hy => by omega
  | n + 1, hn => by
    have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    rw [show pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 (n + 1) = _ from e]
    refine (show Filled _ ((tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩).2.2) (Band n 28) from ?_).append
      (t4_deq_all h X1 X2 n (by omega)) fun y hy => ?_
    · unfold tripL_k0_t4
      exact t4_deq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h X1 X2 ⟨n, hn⟩
    · have h1 : (y 1).val < 3584 := (y 1).isLt
      simp only [Band]
      omega

end Cert.KernelIdeal.Hand

end
-- ==== Proof.ValueEven.lean ====
/-
What the body stores at the even kind of point, and the run from given contents to these.
-/
module

public import proofs.«01_k».proof.Proof.Held
public import proofs.«01_k».proof.Proof.TripEven
public import proofs.«01_k».proof.Proof.Project

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

section
variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)
variable (h1 : ¬ k0_cond1 i = 1#1) (h2 : ¬ k0_cond2 i = 1#1) (h3 : k0_cond3 i = 1#1) (h4 : ¬ k0_cond4 i = 1#1)
include h1 h2 h3 h4

theorem fillEven7 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkQ (arg13.view.read (Elt Ideal) X13) (arg14.view.read (Elt Ideal) X14) (arg5.view.read (Elt Ideal) X5)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).1 (fun _ => True) := by
  unfold runEven
  dsimp only
  exact q_fill rfl

theorem fillEven8 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkKV (arg13.view.read (Elt Ideal) X13) (arg14.view.read (Elt Ideal) X14) (arg6.view.read (Elt Ideal) X6)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).2.1 (fun _ => True) := by
  unfold runEven
  dsimp only
  exact kv_fill rfl

theorem fillEven9 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkPE (arg13.view.read (Elt Ideal) X13) (arg14.view.read (Elt Ideal) X14)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).2.2.1 (fun _ => True) := by
  unfold runEven
  dsimp only
  exact pe_fill rfl

theorem fillEven10 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .fp8e4m3) (blkCode (arg1.view.read (Elt Ideal) X1) (arg2.view.read (Elt Ideal) X2)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).2.2.2.1 (fun _ => True) := by
  unfold runEven
  dsimp only
  exact Filled.mono (t4_code_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h3 X1 X2 16 le_rfl) fun y _ => show (y 0).val < 512 from (y 0).isLt

theorem fillEven11 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .f32) (blkScale (arg1.view.read (Elt Ideal) X1) (arg2.view.read (Elt Ideal) X2)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).2.2.2.2.1 (fun _ => True) := by
  unfold runEven
  dsimp only
  exact Filled.mono (t4_scale_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h3 X1 X2 16 le_rfl) fun y _ => show (y 0).val < 512 from (y 0).isLt

theorem fillEven12 (X1 : BufTy.Contents (Elt Ideal) arg1.view.ty) (X2 : BufTy.Contents (Elt Ideal) arg2.view.ty) (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkDeq (arg1.view.read (Elt Ideal) X1) (arg2.view.read (Elt Ideal) X2)) (runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X1 X2 X5 X6 X13 X14).2.2.2.2.2.1 (fun _ => True) := by
  unfold runEven
  dsimp only
  exact Filled.mono (t4_deq_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h3 X1 X2 16 le_rfl) fun y _ => show (y 0).val < 512 from (y 0).isLt

/-- The body from given contents to these. -/
theorem valEven (d1 : S512x3584.Idx → Elt Ideal .bf16) (d2 : S1x3584.Idx → Elt Ideal .bf16) (d3 : S2112x3584.Idx → Elt Ideal .fp8e4m3) (d4 : S17x28.Idx → Elt Ideal .f32) (d5 : S1x1536.Idx → Elt Ideal .bf16) (d6 : S1x512.Idx → Elt Ideal .bf16) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32) :
    held c arg1 arg2 arg3 arg4 arg5 arg6 arg7 arg8 arg9 arg10 arg11 arg12 arg13 arg14 arg15 d1 d2 d3 d4 d5 d6 d7 d8 d9 d10 d11 d12 d13 d14 d15
      ⊢ wp frame (wpE (defs₀ (F := Ideal)) Variants.none (c : Thread nD τ) none) Set.univ (cc0_mla_a_proj (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ e15, held c arg1 arg2 arg3 arg4 arg5 arg6 arg7 arg8 arg9 arg10 arg11 arg12 arg13 arg14 arg15 d1 d2 d3 d4 d5 d6 (blkQ d13 d14 d5) (blkKV d13 d14 d6) (blkPE d13 d14) (blkCode d1 d2) (blkScale d1 d2) (blkDeq d1 d2) d13 d14 e15)) := by
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩
  subst hf1; subst hf2; subst hf3; subst hf4; subst hf5; subst hf6; subst hf7; subst hf8; subst hf9; subst hf10; subst hf11; subst hf12; subst hf13; subst hf14; subst hf15
  iapply wp_wand_r
  isplitl [H1 H2 H5 H6 H13 H14 H7 H8 H9 H10 H11 H12 H15]
  · iapply ((runEven (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).2.2.2.2.2.2.property Set.univ f7 f8 f9 f10 f11 f12 f15)
    isplitl [H1]; · iexact H1
    isplitl [H2]; · iexact H2
    isplitl [H5]; · iexact H5
    isplitl [H6]; · iexact H6
    isplitl [H13]; · iexact H13
    isplitl [H14]; · iexact H14
    isplitl [H7]; · iexact H7
    isplitl [H8]; · iexact H8
    isplitl [H9]; · iexact H9
    isplitl [H10]; · iexact H10
    isplitl [H11]; · iexact H11
    isplitl [H12]; · iexact H12
    iexact H15
  iintro %u ⟨H1, H2, H5, H6, H13, H14, H7, H8, H9, H10, H11, H12, H15⟩
  iexists _
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact (fillEven7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H8]
  · iexists _; isplitr; swap; · iexact H8
    ipureintro; exact (fillEven8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H9]
  · iexists _; isplitr; swap; · iexact H9
    ipureintro; exact (fillEven9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H10]
  · iexists _; isplitr; swap; · iexact H10
    ipureintro; exact (fillEven10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H11]
  · iexists _; isplitr; swap; · iexact H11
    ipureintro; exact (fillEven11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H12]
  · iexists _; isplitr; swap; · iexact H12
    ipureintro; exact (fillEven12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f1 f2 f5 f6 f13 f14).read (fun _ => trivial) _ _
  isplitl [H13]
  · iexists _; isplitr; swap; · iexact H13
    ipureintro; rfl
  isplitl [H14]
  · iexists _; isplitr; swap; · iexact H14
    ipureintro; rfl
  iexists _; isplitr; swap; · iexact H15
  ipureintro; rfl

end

end Cert.KernelIdeal.Hand

end
-- ==== Proof.ValueLast.lean ====
/-
What the body stores at the last kind of point, and the run from given contents to these.
-/
module

public import proofs.«01_k».proof.Proof.Held
public import proofs.«01_k».proof.Proof.Project

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

section
variable (c : Dev nD) (i : grid0.Coords)

variable (arg1 : Memref sig .tc .vmem S512x3584 .bf16) (harg1 : arg1.IsWhole)
variable (arg2 : Memref sig .tc .vmem S1x3584 .bf16) (harg2 : arg2.IsWhole)
variable (arg3 : Memref sig .tc .vmem S2112x3584 .fp8e4m3) (harg3 : arg3.IsWhole)
variable (arg4 : Memref sig .tc .vmem S17x28 .f32) (harg4 : arg4.IsWhole)
variable (arg5 : Memref sig .tc .vmem S1x1536 .bf16) (harg5 : arg5.IsWhole)
variable (arg6 : Memref sig .tc .vmem S1x512 .bf16) (harg6 : arg6.IsWhole)
variable (arg7 : Memref sig .tc .vmem S512x1536 .bf16) (harg7 : arg7.IsWhole)
variable (arg8 : Memref sig .tc .vmem S512x512 .bf16) (harg8 : arg8.IsWhole)
variable (arg9 : Memref sig .tc .vmem S512x64 .bf16) (harg9 : arg9.IsWhole)
variable (arg10 : Memref sig .tc .vmem S512x3584 .fp8e4m3) (harg10 : arg10.IsWhole)
variable (arg11 : Memref sig .tc .vmem S512x28 .f32) (harg11 : arg11.IsWhole)
variable (arg12 : Memref sig .tc .vmem S512x3584 .bf16) (harg12 : arg12.IsWhole)
variable (arg13 : Memref sig .tc .vmem S512x3584 .bf16) (harg13 : arg13.IsWhole)
variable (arg14 : Memref sig .tc .vmem S2112x3584 .bf16) (harg14 : arg14.IsWhole)
variable (arg15 : Memref sig .tc .vmem S512x1536 .f32) (harg15 : arg15.IsWhole)
variable (h1 : ¬ k0_cond1 i = 1#1) (h2 : ¬ k0_cond2 i = 1#1) (h3 : ¬ k0_cond3 i = 1#1) (h4 : k0_cond4 i = 1#1)
include h1 h2 h3 h4

theorem fillLast7 (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkQ (arg13.view.read (Elt Ideal) X13) (arg14.view.read (Elt Ideal) X14) (arg5.view.read (Elt Ideal) X5)) (runLast (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X5 X6 X13 X14).1 (fun _ => True) := by
  unfold runLast
  dsimp only
  exact q_fill rfl

theorem fillLast8 (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkKV (arg13.view.read (Elt Ideal) X13) (arg14.view.read (Elt Ideal) X14) (arg6.view.read (Elt Ideal) X6)) (runLast (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X5 X6 X13 X14).2.1 (fun _ => True) := by
  unfold runLast
  dsimp only
  exact kv_fill rfl

theorem fillLast9 (X5 : BufTy.Contents (Elt Ideal) arg5.view.ty) (X6 : BufTy.Contents (Elt Ideal) arg6.view.ty) (X13 : BufTy.Contents (Elt Ideal) arg13.view.ty) (X14 : BufTy.Contents (Elt Ideal) arg14.view.ty) :
    Filled (e := .bf16) (blkPE (arg13.view.read (Elt Ideal) X13) (arg14.view.read (Elt Ideal) X14)) (runLast (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 X5 X6 X13 X14).2.2.1 (fun _ => True) := by
  unfold runLast
  dsimp only
  exact pe_fill rfl

/-- The body from given contents to these. -/
theorem valLast (d1 : S512x3584.Idx → Elt Ideal .bf16) (d2 : S1x3584.Idx → Elt Ideal .bf16) (d3 : S2112x3584.Idx → Elt Ideal .fp8e4m3) (d4 : S17x28.Idx → Elt Ideal .f32) (d5 : S1x1536.Idx → Elt Ideal .bf16) (d6 : S1x512.Idx → Elt Ideal .bf16) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32) :
    held c arg1 arg2 arg3 arg4 arg5 arg6 arg7 arg8 arg9 arg10 arg11 arg12 arg13 arg14 arg15 d1 d2 d3 d4 d5 d6 d7 d8 d9 d10 d11 d12 d13 d14 d15
      ⊢ wp frame (wpE (defs₀ (F := Ideal)) Variants.none (c : Thread nD τ) none) Set.univ (cc0_mla_a_proj (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ e15, held c arg1 arg2 arg3 arg4 arg5 arg6 arg7 arg8 arg9 arg10 arg11 arg12 arg13 arg14 arg15 d1 d2 d3 d4 d5 d6 (blkQ d13 d14 d5) (blkKV d13 d14 d6) (blkPE d13 d14) d10 d11 d12 d13 d14 e15)) := by
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩
  subst hf1; subst hf2; subst hf3; subst hf4; subst hf5; subst hf6; subst hf7; subst hf8; subst hf9; subst hf10; subst hf11; subst hf12; subst hf13; subst hf14; subst hf15
  iapply wp_wand_r
  isplitl [H5 H6 H13 H14 H7 H8 H9 H15]
  · iapply ((runLast (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).2.2.2.property Set.univ f7 f8 f9 f15)
    isplitl [H5]; · iexact H5
    isplitl [H6]; · iexact H6
    isplitl [H13]; · iexact H13
    isplitl [H14]; · iexact H14
    isplitl [H7]; · iexact H7
    isplitl [H8]; · iexact H8
    isplitl [H9]; · iexact H9
    iexact H15
  iintro %u ⟨H5, H6, H13, H14, H7, H8, H9, H15⟩
  iexists _
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact (fillLast7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).read (fun _ => trivial) _ _
  isplitl [H8]
  · iexists _; isplitr; swap; · iexact H8
    ipureintro; exact (fillLast8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).read (fun _ => trivial) _ _
  isplitl [H9]
  · iexists _; isplitr; swap; · iexact H9
    ipureintro; exact (fillLast9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 f5 f6 f13 f14).read (fun _ => trivial) _ _
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  iexists _; isplitr; swap; · iexact H15
  ipureintro; rfl

end

end Cert.KernelIdeal.Hand

end
-- ==== Proof.ValueDat.lean ====
/-
What the pipeline holds, point by point: the values that the body leaves in each window and in the scratch buffers.
-/
module

public import Idealize.ShloMosaic.Lib.Pipeline.ValueKit.Point
public import Idealize.ShloMosaic.Lib.Pipeline.ArrRel
public import proofs.«01_k».proof.Proof.IdealFrame
public import proofs.«01_k».proof.Proof.ValueFirst
public import proofs.«01_k».proof.Proof.ValueOdd
public import proofs.«01_k».proof.Proof.ValueEven
public import proofs.«01_k».proof.Proof.ValueLast

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

/-- Block `t` of the rows, the last one again after the last. -/
def hB (H : S6144x3584.Idx → EReal) (t : Nat) (y : S512x3584.Idx) : EReal :=
  H (ix2 ⟨512 * min t 11 + (y 0).val, by have : (y 0).val < 512 := (y 0).isLt; omega⟩ (y 1))

variable (m : (ℓ : Loc nD τ sig) → Buf (Elt Ideal) ℓ)

/-- The rows as the region finds them, and their block at point `t`, -/
abbrev blk (c : Dev nD) (t : Nat) : S512x3584.Idx → EReal := hB (V m c main_v0) t
/-- the block quantised and dequantised, -/
abbrev deqAt (c : Dev nD) (t : Nat) : S512x3584.Idx → EReal := blkDeq (blk m c t) (V m c main_v1)
/-- and the weights dequantised. -/
abbrev wAt (c : Dev nD) : S2112x3584.Idx → EReal := wDeq (V m c main_arg2) (V m c main_arg3)

/-- What the body leaves in a window: the inputs as they were, the projections of the block before, the codes and the
    scales of the block. -/
def left (c : Dev nD) : (w : Fin cfg0.W) → Fin cfg0.N → (Y X : (cfg0.win w).block.Idx → Elt Ideal (cfg0.win w).elt) → Prop
  | 6, t, _, X => t.val ≠ 0 → X = blkQ (deqAt m c (t.val - 1)) (wAt m c) (V m c main_v2)
  | 7, t, _, X => t.val ≠ 0 → X = blkKV (deqAt m c (t.val - 1)) (wAt m c) (V m c main_v3)
  | 8, t, _, X => t.val ≠ 0 → X = blkPE (deqAt m c (t.val - 1)) (wAt m c)
  | 9, t, _, X => X = blkCode (blk m c t.val) (V m c main_v1)
  | 10, t, _, X => X = blkScale (blk m c t.val) (V m c main_v1)
  | 0, _, Y, X => X = Y
  | 1, _, Y, X => X = Y
  | 2, _, Y, X => X = Y
  | 3, _, Y, X => X = Y
  | 4, _, Y, X => X = Y
  | 5, _, Y, X => X = Y

/-- What the two scratch blocks and the scratch weights hold before point `t`; after the last nothing is said of them. -/
def scratchOk (c : Dev nD) (t : Nat) (d12 d13 : S512x3584.Idx → EReal) (d14 : S2112x3584.Idx → EReal) : Prop :=
  t ≠ 0 → t ≠ 13 → d14 = wAt m c ∧ (t % 2 = 1 → d12 = deqAt m c (t - 1)) ∧ (t % 2 = 0 → d13 = deqAt m c (t - 1))

/-- The scratch buffers before point `t`. -/
def scratch (c : Dev nD) (t : Nat) : sProp 𝕄 :=
  iprop(iprop(∃ d12 d13 d14 d15, ⌜scratchOk m c t d12 d13 d14⌝ ∗ owns (c : Thread nD τ) (Memref.whole cc0_scratch0) fullShare d12 ∗ owns (c : Thread nD τ) (Memref.whole cc0_scratch1) fullShare d13
      ∗ owns (c : Thread nD τ) (Memref.whole cc0_scratch2) fullShare d14 ∗ owns (c : Thread nD τ) (Memref.whole cc0_scratch3) fullShare d15) ∗ (∃ r, prngReg c r))

/-- The proof data. -/
def valDat (c : Dev nD) : RDat τ (Elt Ideal) Unit ℕ (UR sig nD τ) ℕ cfg0 c where
  A w := V m c (Pipeline.arrRef spec0 w)
  after := left m c
  Φ t := scratch m c t.val
  q _ := fullShare
  owed _ := 0

theorem index0 : ∀ t : Fin cfg0.N, (cfg0.win 0).index t 0 = min t.val 11 ∧ (cfg0.win 0).index t 1 = 0 := by decide +kernel
theorem index1 : ∀ t : Fin cfg0.N, (cfg0.win 1).index t 0 = 0 ∧ (cfg0.win 1).index t 1 = 0 := by decide +kernel
theorem index2 : ∀ t : Fin cfg0.N, (cfg0.win 2).index t 0 = 0 ∧ (cfg0.win 2).index t 1 = 0 := by decide +kernel
theorem index3 : ∀ t : Fin cfg0.N, (cfg0.win 3).index t 0 = 0 ∧ (cfg0.win 3).index t 1 = 0 := by decide +kernel
theorem index4 : ∀ t : Fin cfg0.N, (cfg0.win 4).index t 0 = 0 ∧ (cfg0.win 4).index t 1 = 0 := by decide +kernel
theorem index5 : ∀ t : Fin cfg0.N, (cfg0.win 5).index t 0 = 0 ∧ (cfg0.win 5).index t 1 = 0 := by decide +kernel

/-- The body finds the block of rows, -/
theorem finds0 (c : Dev nD) (t : Fin cfg0.N) (Y) (h : (valDat m c).Finds 0 t Y) : Y = blk m c t.val := by
  obtain ⟨d, rfl⟩ := (valDat m c).finds_in_eq_fetched 0 rfl (fun _ _ _ => rfl) (fun _ _ _ h => h) t Y h
  have e : (valDat m c).fetched 0 t d = iblk m c 0 t := by unfold RDat.fetched RDat.blockOf iblk; rfl
  rw [e]
  funext y
  have h0 := (index0 t).1
  have h1 := (index0 t).2
  blk_ext [iblk, blk, hB, h0, h1]

/-- and the other arguments whole. -/
theorem finds1 (c : Dev nD) (t : Fin cfg0.N) (Y) (h : (valDat m c).Finds 1 t Y) : Y = V m c main_v1 := by
  obtain ⟨d, rfl⟩ := (valDat m c).finds_in_eq_fetched 1 rfl (fun _ _ _ => rfl) (fun _ _ _ h => h) t Y h
  have e : (valDat m c).fetched 1 t d = iblk m c 1 t := by unfold RDat.fetched RDat.blockOf iblk; rfl
  rw [e]
  funext y
  have h0 := (index1 t).1
  have h1 := (index1 t).2
  blk_ext [iblk, h0, h1]

/-- The same of window 2. -/
theorem finds2 (c : Dev nD) (t : Fin cfg0.N) (Y) (h : (valDat m c).Finds 2 t Y) : Y = V m c main_arg2 := by
  obtain ⟨d, rfl⟩ := (valDat m c).finds_in_eq_fetched 2 rfl (fun _ _ _ => rfl) (fun _ _ _ h => h) t Y h
  have e : (valDat m c).fetched 2 t d = iblk m c 2 t := by unfold RDat.fetched RDat.blockOf iblk; rfl
  rw [e]
  funext y
  have h0 := (index2 t).1
  have h1 := (index2 t).2
  blk_ext [iblk, h0, h1]

/-- The same of window 3. -/
theorem finds3 (c : Dev nD) (t : Fin cfg0.N) (Y) (h : (valDat m c).Finds 3 t Y) : Y = V m c main_arg3 := by
  obtain ⟨d, rfl⟩ := (valDat m c).finds_in_eq_fetched 3 rfl (fun _ _ _ => rfl) (fun _ _ _ h => h) t Y h
  have e : (valDat m c).fetched 3 t d = iblk m c 3 t := by unfold RDat.fetched RDat.blockOf iblk; rfl
  rw [e]
  funext y
  have h0 := (index3 t).1
  have h1 := (index3 t).2
  blk_ext [iblk, h0, h1]

/-- The same of window 4. -/
theorem finds4 (c : Dev nD) (t : Fin cfg0.N) (Y) (h : (valDat m c).Finds 4 t Y) : Y = V m c main_v2 := by
  obtain ⟨d, rfl⟩ := (valDat m c).finds_in_eq_fetched 4 rfl (fun _ _ _ => rfl) (fun _ _ _ h => h) t Y h
  have e : (valDat m c).fetched 4 t d = iblk m c 4 t := by unfold RDat.fetched RDat.blockOf iblk; rfl
  rw [e]
  funext y
  have h0 := (index4 t).1
  have h1 := (index4 t).2
  blk_ext [iblk, h0, h1]

/-- The same of window 5. -/
theorem finds5 (c : Dev nD) (t : Fin cfg0.N) (Y) (h : (valDat m c).Finds 5 t Y) : Y = V m c main_v3 := by
  obtain ⟨d, rfl⟩ := (valDat m c).finds_in_eq_fetched 5 rfl (fun _ _ _ => rfl) (fun _ _ _ h => h) t Y h
  have e : (valDat m c).fetched 5 t d = iblk m c 5 t := by unfold RDat.fetched RDat.blockOf iblk; rfl
  rw [e]
  funext y
  have h0 := (index5 t).1
  have h1 := (index5 t).2
  blk_ext [iblk, h0, h1]

end Cert.KernelIdeal.Hand

end
-- ==== Proof.ValueBody.lean ====
/-
The body at any point, from what the pipeline holds there to what it holds after.
-/
module

public import proofs.«01_k».proof.Proof.ValueDat

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ)

/-- What the results and the scratch buffers hold after point `t`. -/
def After (c : Dev nD) (t : Nat) (e7 : S512x1536.Idx → EReal) (e8 : S512x512.Idx → EReal) (e9 : S512x64.Idx → EReal) (e10 : S512x3584.Idx → EReal)
    (e11 : S512x28.Idx → EReal) (e12 e13 : S512x3584.Idx → EReal) (e14 : S2112x3584.Idx → EReal) : Prop :=
  (t ≠ 0 → e7 = blkQ (deqAt m c (t - 1)) (wAt m c) (V m c main_v2) ∧ e8 = blkKV (deqAt m c (t - 1)) (wAt m c) (V m c main_v3)
      ∧ e9 = blkPE (deqAt m c (t - 1)) (wAt m c))
    ∧ e10 = blkCode (blk m c t) (V m c main_v1) ∧ e11 = blkScale (blk m c t) (V m c main_v1) ∧ scratchOk m c (t + 1) e12 e13 e14

/-- The kinds of point, with their numbers. -/
theorem branchAt (t : Fin cfg0.N) :
    (t.val = 0 ∧ k0_cond1 (grid0.coords t) = 1#1 ∧ ¬ k0_cond2 (grid0.coords t) = 1#1 ∧ ¬ k0_cond3 (grid0.coords t) = 1#1 ∧ ¬ k0_cond4 (grid0.coords t) = 1#1)
    ∨ ((t.val % 2 = 1 ∧ t.val ≠ 13) ∧ ¬ k0_cond1 (grid0.coords t) = 1#1 ∧ k0_cond2 (grid0.coords t) = 1#1 ∧ ¬ k0_cond3 (grid0.coords t) = 1#1 ∧ ¬ k0_cond4 (grid0.coords t) = 1#1)
    ∨ ((t.val % 2 = 0 ∧ t.val ≠ 0) ∧ ¬ k0_cond1 (grid0.coords t) = 1#1 ∧ ¬ k0_cond2 (grid0.coords t) = 1#1 ∧ k0_cond3 (grid0.coords t) = 1#1 ∧ ¬ k0_cond4 (grid0.coords t) = 1#1)
    ∨ (t.val = 12 ∧ ¬ k0_cond1 (grid0.coords t) = 1#1 ∧ ¬ k0_cond2 (grid0.coords t) = 1#1 ∧ ¬ k0_cond3 (grid0.coords t) = 1#1 ∧ k0_cond4 (grid0.coords t) = 1#1) := by
  revert t; decide +kernel

/-- The body at any point. -/
theorem valPoint (c : Dev nD) (t : Fin cfg0.N) (d7 : S512x1536.Idx → Elt Ideal .bf16) (d8 : S512x512.Idx → Elt Ideal .bf16) (d9 : S512x64.Idx → Elt Ideal .bf16) (d10 : S512x3584.Idx → Elt Ideal .fp8e4m3) (d11 : S512x28.Idx → Elt Ideal .f32) (d12 : S512x3584.Idx → Elt Ideal .bf16) (d13 : S512x3584.Idx → Elt Ideal .bf16) (d14 : S2112x3584.Idx → Elt Ideal .bf16) (d15 : S512x1536.Idx → Elt Ideal .f32)
    (hs : scratchOk m c t.val d12 d13 d14)
    (hl : t.val = 12 → d10 = blkCode (blk m c t.val) (V m c main_v1) ∧ d11 = blkScale (blk m c t.val) (V m c main_v1)) :
    held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)
        (blk m c t.val) (V m c main_v1) (V m c main_arg2) (V m c main_arg3) (V m c main_v2) (V m c main_v3) d7 d8 d9 d10 d11 d12 d13 d14 d15
      ⊢ wp frame (wpE (defs₀ (F := Ideal)) Variants.none c none) Set.univ (bodyAt0 t)
          (fun _ => iprop(∃ e7 e8 e9 e10 e11 e12 e13 e14 e15, ⌜After m c t.val e7 e8 e9 e10 e11 e12 e13 e14⌝
            ∗ held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3)
                (blk m c t.val) (V m c main_v1) (V m c main_arg2) (V m c main_arg3) (V m c main_v2) (V m c main_v3) e7 e8 e9 e10 e11 e12 e13 e14 e15)) := by
  rcases branchAt t with ⟨h, h1, h2, h3, h4⟩ | ⟨h, h1, h2, h3, h4⟩ | ⟨h, h1, h2, h3, h4⟩ | ⟨h, h1, h2, h3, h4⟩
  · iintro H
    iapply wp_wand_r
    isplitl [H]
    · iapply (valFirst c (grid0.coords t) _ _ _ _ _ _ _ _ _ _ _ _ _ _ _ _ _ _ _ _ _ _ _ _ _ _ _ _ _ _ h1 h2 h3 h4 _ _ _ _ _ _ _ _ _ _ _ _ _ _ _)
      iexact H
    iintro %u H
    iexists _, _, _, _, _, _, _, _, _
    isplitr; swap; · iexact H
    ipureintro
    exact ⟨fun h0 => absurd h h0, rfl, rfl, fun _ _ => ⟨rfl, fun _ => by rw [h], fun h0 => by omega⟩⟩
  · iintro H
    iapply wp_wand_r
    isplitl [H]
    · iapply (valOdd c (grid0.coords t) _ _ _ _ _ _ _ _ _ _ _ _ _ _ _ _ _ _ _ _ _ _ _ _ _ _ _ _ _ _ h1 h2 h3 h4 _ _ _ _ _ _ _ _ _ _ _ _ _ _ _)
      iexact H
    iintro %u ⟨%e15, H⟩
    iexists _, _, _, _, _, _, _, _, _
    isplitr; swap; · iexact H
    ipureintro
    obtain ⟨e1, e2, -⟩ := hs (by omega) h.2
    exact ⟨fun _ => by rw [e1, e2 h.1]; exact ⟨rfl, rfl, rfl⟩, rfl, rfl, fun _ _ => ⟨e1, fun h0 => by omega, fun _ => rfl⟩⟩
  · iintro H
    iapply wp_wand_r
    isplitl [H]
    · iapply (valEven c (grid0.coords t) _ _ _ _ _ _ _ _ _ _ _ _ _ _ _ _ _ _ _ _ _ _ _ _ _ _ _ _ _ _ h1 h2 h3 h4 _ _ _ _ _ _ _ _ _ _ _ _ _ _ _)
      iexact H
    iintro %u ⟨%e15, H⟩
    iexists _, _, _, _, _, _, _, _, _
    isplitr; swap; · iexact H
    ipureintro
    obtain ⟨e1, -, e2⟩ := hs h.2 (by omega)
    exact ⟨fun _ => by rw [e1, e2 h.1]; exact ⟨rfl, rfl, rfl⟩, rfl, rfl, fun _ _ => ⟨e1, fun _ => rfl, fun h0 => by omega⟩⟩
  · iintro H
    iapply wp_wand_r
    isplitl [H]
    · iapply (valLast c (grid0.coords t) _ _ _ _ _ _ _ _ _ _ _ _ _ _ _ _ _ _ _ _ _ _ _ _ _ _ _ _ _ _ h1 h2 h3 h4 _ _ _ _ _ _ _ _ _ _ _ _ _ _ _)
      iexact H
    iintro %u ⟨%e15, H⟩
    iexists _, _, _, _, _, _, _, _, _
    isplitr; swap; · iexact H
    ipureintro
    obtain ⟨e1, -, e2⟩ := hs (by omega) (by omega)
    exact ⟨fun _ => by rw [e1, e2 (by omega)]; exact ⟨rfl, rfl, rfl⟩, (hl h).1, (hl h).2, fun _ h0 => absurd (by omega) h0⟩

/-- At the last point the codes and the scales are those of the point before, which worked on the same block. -/
theorem finds9 (c : Dev nD) (t : Fin cfg0.N) (ht : t.val = 12) (Y) (h : (valDat m c).Finds 9 t Y) : Y = blkCode (blk m c t.val) (V m c main_v1) := by
  have ef : ∀ t : Fin cfg0.N, (cfg0.win 9).fetch t = false := by decide +kernel
  have eg : ∀ t : Fin cfg0.N, t.val = 11 → (cfg0.win 9).flush t = false := by decide +kernel
  rcases ((valDat m c).finds_of_pos (ef t) (by omega) Y).mp h with h | ⟨Y', -, h⟩
  · rw [eg _ (by simp only [ht])] at h; exact absurd h Bool.false_ne_true
  · refine Eq.trans (show Y = blkCode (blk m c (t.val - 1)) (V m c main_v1) from h) ?_
    rw [ht]; rfl
theorem finds10 (c : Dev nD) (t : Fin cfg0.N) (ht : t.val = 12) (Y) (h : (valDat m c).Finds 10 t Y) : Y = blkScale (blk m c t.val) (V m c main_v1) := by
  have ef : ∀ t : Fin cfg0.N, (cfg0.win 10).fetch t = false := by decide +kernel
  have eg : ∀ t : Fin cfg0.N, t.val = 11 → (cfg0.win 10).flush t = false := by decide +kernel
  rcases ((valDat m c).finds_of_pos (ef t) (by omega) Y).mp h with h | ⟨Y', -, h⟩
  · rw [eg _ (by simp only [ht])] at h; exact absurd h Bool.false_ne_true
  · refine Eq.trans (show Y = blkScale (blk m c (t.val - 1)) (V m c main_v1) from h) ?_
    rw [ht]; rfl

/-- The body obligation. -/
theorem valBody (c : Dev nD) : (valDat m c).BodyObligation (defs₀ (F := Ideal)) Variants.none () Set.univ := by
  intro t Y hY
  have hb := fun d12 d13 d14 d15 hs => valPoint m c t (Y 6) (Y 7) (Y 8) (Y 9) (Y 10) d12 d13 d14 d15 hs
    fun ht => ⟨finds9 m c t ht _ (hY 9), finds10 m c t ht _ (hY 10)⟩
  rw [bigSep_W0, bigSep_W0, bodyRow,
    show (valDat m c).Φ t.castSucc = scratch m c t.val from rfl,
    show (valDat m c).Φ t.succ = scratch m c (t.val + 1) from rfl,
    finds0 m c t _ (hY 0), finds1 m c t _ (hY 1), finds2 m c t _ (hY 2), finds3 m c t _ (hY 3), finds4 m c t _ (hY 4), finds5 m c t _ (hY 5)]
  unfold scratch
  unfold held at hb
  iintro ⟨⟨⟨%d12, %d13, %d14, %d15, %hs, HS0, HS1, HS2, HS3⟩, Hg⟩, HO, H0, H1, H2, H3, H4, H5, H6, H7, H8, H9, H10⟩
  iapply wp_wand_r
  isplitl [H0 H1 H2 H3 H4 H5 H6 H7 H8 H9 H10 HS0 HS1 HS2 HS3]
  · iapply (hb d12 d13 d14 d15 hs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iexact HS3
  iintro %u ⟨%e7, %e8, %e9, %e10, %e11, %e12, %e13, %e14, %e15, %ha, H0, H1, H2, H3, H4, H5, H6, H7, H8, H9, H10, HS0, HS1, HS2, HS3⟩
  obtain ⟨ha, h10, h11, hsc⟩ := ha
  isplitl [HS0 HS1 HS2 HS3 Hg]
  · isplitl [HS0 HS1 HS2 HS3]
    · iexists e12, e13, e14, e15
      isplitr
      · ipureintro; exact hsc
      isplitl [HS0]; · iexact HS0
      isplitl [HS1]; · iexact HS1
      isplitl [HS2]; · iexact HS2
      iexact HS3
    iexact Hg
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact fun h => (ha h).1
  isplitl [H7]
  · iexists _; isplitr; swap; · iexact H7
    ipureintro; exact fun h => (ha h).2.1
  isplitl [H8]
  · iexists _; isplitr; swap; · iexact H8
    ipureintro; exact fun h => (ha h).2.2
  isplitl [H9]
  · iexists _; isplitr; swap; · iexact H9
    ipureintro; exact h10
  iexists _; isplitr; swap; · iexact H10
  ipureintro; exact h11

set_option backward.isDefEq.respectTransparency.types false in
/-- The launch: the arrays at contents that these data allow. -/
theorem valRun (ρ : Dev nD → PrngReg) : θ_run defs (onTc (τ := τ) (main (F := Ideal))) (s₀ m ρ)
    (fun r => RDat.FramePost (cfgs 0) (valDat m) (V m) r ∧ r.2.sem = fun _ => 0) :=
  RDat.θ_run_frame_track (Q' := _) cfgs (0 : Fin 1) launch0 defs₀ Variants.none (valDat m) m ρ main
    (hbody := valBody m) (hshare := fun c w => by unfold RDat.share; split <;> rfl)
    (howed := fun _ _ => rfl) (V := V m) (hmain := hmain m Variants.none) (hA := fun _ _ => rfl)
    (hin := fun c => by
      rw [show Pipeline.ΦA (cfgs 0).spec c = Pipeline.ΦA spec0 c from rfl, kept_eq]
      show _ ⊢ scratch m c 0
      unfold scratch
      iintro ⟨⟨⟨%d12, H0⟩, ⟨%d13, H1⟩, ⟨%d14, H2⟩, ⟨%d15, H3⟩⟩, Hg⟩
      isplitl [H0 H1 H2 H3]
      · iexists d12, d13, d14, d15
        isplitr
        · ipureintro; exact fun h => absurd rfl h
        isplitl [H0]; · iexact H0
        isplitl [H1]; · iexact H1
        isplitl [H2]; · iexact H2
        iexact H3
      iexact Hg)
    (hout := fun c => by
      rw [show Pipeline.ΦA (cfgs 0).spec c = Pipeline.ΦA spec0 c from rfl, kept_eq]
      show scratch m c 13 ⊢ _
      unfold scratch
      iintro ⟨⟨%d12, %d13, %d14, %d15, %hs, H0, H1, H2, H3⟩, Hg⟩
      isplitl [H0 H1 H2 H3]
      · isplitl [H0]; · iexists _; iexact H0
        isplitl [H1]; · iexists _; iexact H1
        isplitl [H2]; · iexists _; iexact H2
        iexists _; iexact H3
      iexact Hg)

end Cert.KernelIdeal.Hand

end
-- ==== Proof.ValueArrays.lean ====
/-
The result arrays of the kernel after the run, as functions of the arrays that the region finds.
-/
module

public import proofs.«01_k».proof.Proof.ValueBody

@[expose] public section

set_option maxHeartbeats 4000000
set_option maxRecDepth 65536

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.Sem
open Idealize.ShloMosaic.Pipeline (Dat RDat)

variable (m : (ℓ : Loc nD τ sig) → Buf (Elt Ideal) ℓ)

/-- Row `r` of the rows as the region finds them, -/
abbrev hRow (c : Dev nD) (r : Fin 6144) : Fin 3584 → EReal := fun j => V m c main_v0 (ix2 r j)
/-- the first weights of the norm, -/
abbrev gRow (c : Dev nD) : Fin 3584 → EReal := rowOne (V m c main_v1)
/-- the dequantised weights, -/
abbrev wMat (c : Dev nD) : Fin 2112 → Fin 3584 → EReal := fun n k => wAt m c (ix2 n k)
/-- and the five results. -/
def resQ (c : Dev nD) (y : S6144x1536.Idx) : EReal :=
  rowQ (rowDeq (hRow m c (y 0)) (gRow m c)) (wMat m c) (fun j => V m c main_v2 (ix2 0 j)) (y 1)
def resKV (c : Dev nD) (y : S6144x512.Idx) : EReal :=
  rowKV (rowDeq (hRow m c (y 0)) (gRow m c)) (wMat m c) (fun j => V m c main_v3 (ix2 0 j)) (y 1)
def resPE (c : Dev nD) (y : S6144x64.Idx) : EReal :=
  rowPE (rowDeq (hRow m c (y 0)) (gRow m c)) (wMat m c) (y 1)
def resCode (c : Dev nD) (y : S6144x3584.Idx) : EReal := rowCode (hRow m c (y 0)) (gRow m c) (y 1)
def resScale (c : Dev nD) (y : S6144x28.Idx) : EReal := rowScale (hRow m c (y 0)) (gRow m c) (y 1)

/-- A row of the block at point `t`. -/
theorem blk_row (c : Dev nD) (t : Nat) (y0 : Fin 512) (r : Fin 6144) (h : r.val = 512 * min t 11 + y0.val) :
    rowAt (blk m c t) y0 = hRow m c r := by
  funext j
  show V m c main_v0 _ = V m c main_v0 _
  refine congrArg _ (congrArg (fun r => ix2 r j) (Fin.ext ?_))
  exact h.symm

theorem index6 : ∀ t : Fin cfg0.N, (cfg0.win 6).index t 0 = t.val - 1 ∧ (cfg0.win 6).index t 1 = 0 ∧ ((cfg0.win 6).flush t = true → t.val ≠ 0) := by decide +kernel
theorem index7 : ∀ t : Fin cfg0.N, (cfg0.win 7).index t 0 = t.val - 1 ∧ (cfg0.win 7).index t 1 = 0 ∧ ((cfg0.win 7).flush t = true → t.val ≠ 0) := by decide +kernel
theorem index8 : ∀ t : Fin cfg0.N, (cfg0.win 8).index t 0 = t.val - 1 ∧ (cfg0.win 8).index t 1 = 0 ∧ ((cfg0.win 8).flush t = true → t.val ≠ 0) := by decide +kernel
theorem index9 : ∀ t : Fin cfg0.N, (cfg0.win 9).index t 0 = min t.val 11 ∧ (cfg0.win 9).index t 1 = 0 := by decide +kernel
theorem index10 : ∀ t : Fin cfg0.N, (cfg0.win 10).index t 0 = min t.val 11 ∧ (cfg0.win 10).index t 1 = 0 := by decide +kernel

variable {m} {c : Dev nD} {after : (w : Fin cfg0.W) → Fin cfg0.N → (cfg0.win w).block.Idx → Elt Ideal (cfg0.win w).elt}
  (hL : ∀ (w : Fin cfg0.W) (u : Fin cfg0.N), (cfg0.win w).flush u = true → (valDat m c).Leaves w u (after w u))
include hL

theorem arr6 : ((valDat m c).withAfter after).arrAt 6 cfg0.N = resQ m c := by
  refine Dat.arrAt_eq_of_covers _ 6 _ (by decide +kernel) fun t hf y => ?_
  obtain ⟨Y, -, h⟩ := hL 6 t hf
  have h0 := (index6 t).1
  have h1 := (index6 t).2.1
  have h2 := (index6 t).2.2 hf
  have h3 : t.val < 13 := t.isLt
  rw [RDat.withAfter_after, show after 6 t = blkQ (deqAt m c (t.val - 1)) (wAt m c) (V m c main_v2) from h h2]
  blk_simp
  have e0 : ((win0_6.blk t).view.emb y 0).val = 512 * min (t.val - 1) 11 + (y 0).val := by blk_simp [h0]; omega
  have e1 : y 1 = (win0_6.blk t).view.emb y 1 := by apply Fin.ext; blk_simp [h1]
  exact congrArg₂ (fun H j => rowQ (rowDeq H (gRow m c)) (wMat m c) (fun j => V m c main_v2 (ix2 0 j)) j) (blk_row m c (t.val - 1) (y 0) _ e0) e1

theorem arr7 : ((valDat m c).withAfter after).arrAt 7 cfg0.N = resKV m c := by
  refine Dat.arrAt_eq_of_covers _ 7 _ (by decide +kernel) fun t hf y => ?_
  obtain ⟨Y, -, h⟩ := hL 7 t hf
  have h0 := (index7 t).1
  have h1 := (index7 t).2.1
  have h2 := (index7 t).2.2 hf
  have h3 : t.val < 13 := t.isLt
  rw [RDat.withAfter_after, show after 7 t = blkKV (deqAt m c (t.val - 1)) (wAt m c) (V m c main_v3) from h h2]
  blk_simp
  have e0 : ((win0_7.blk t).view.emb y 0).val = 512 * min (t.val - 1) 11 + (y 0).val := by blk_simp [h0]; omega
  have e1 : y 1 = (win0_7.blk t).view.emb y 1 := by apply Fin.ext; blk_simp [h1]
  exact congrArg₂ (fun H j => rowKV (rowDeq H (gRow m c)) (wMat m c) (fun j => V m c main_v3 (ix2 0 j)) j) (blk_row m c (t.val - 1) (y 0) _ e0) e1

theorem arr8 : ((valDat m c).withAfter after).arrAt 8 cfg0.N = resPE m c := by
  refine Dat.arrAt_eq_of_covers _ 8 _ (by decide +kernel) fun t hf y => ?_
  obtain ⟨Y, -, h⟩ := hL 8 t hf
  have h0 := (index8 t).1
  have h1 := (index8 t).2.1
  have h2 := (index8 t).2.2 hf
  have h3 : t.val < 13 := t.isLt
  rw [RDat.withAfter_after, show after 8 t = blkPE (deqAt m c (t.val - 1)) (wAt m c) from h h2]
  blk_simp
  have e0 : ((win0_8.blk t).view.emb y 0).val = 512 * min (t.val - 1) 11 + (y 0).val := by blk_simp [h0]; omega
  have e1 : y 1 = (win0_8.blk t).view.emb y 1 := by apply Fin.ext; blk_simp [h1]
  exact congrArg₂ (fun H j => rowPE (rowDeq H (gRow m c)) (wMat m c) j) (blk_row m c (t.val - 1) (y 0) _ e0) e1

theorem arr9 : ((valDat m c).withAfter after).arrAt 9 cfg0.N = resCode m c := by
  refine Dat.arrAt_eq_of_covers _ 9 _ (by decide +kernel) fun t hf y => ?_
  obtain ⟨Y, -, h⟩ := hL 9 t hf
  have h0 := (index9 t).1
  have h1 := (index9 t).2
  rw [RDat.withAfter_after, show after 9 t = blkCode (blk m c t.val) (V m c main_v1) from h]
  blk_simp
  have e0 : ((win0_9.blk t).view.emb y 0).val = 512 * min t.val 11 + (y 0).val := by blk_simp [h0]; omega
  have e1 : y 1 = (win0_9.blk t).view.emb y 1 := by apply Fin.ext; blk_simp [h1]
  exact congrArg₂ (fun H j => rowCode H (gRow m c) j) (blk_row m c t.val (y 0) _ e0) e1

theorem arr10 : ((valDat m c).withAfter after).arrAt 10 cfg0.N = resScale m c := by
  refine Dat.arrAt_eq_of_covers _ 10 _ (by decide +kernel) fun t hf y => ?_
  obtain ⟨Y, -, h⟩ := hL 10 t hf
  have h0 := (index10 t).1
  have h1 := (index10 t).2
  rw [RDat.withAfter_after, show after 10 t = blkScale (blk m c t.val) (V m c main_v1) from h]
  blk_simp
  have e0 : ((win0_10.blk t).view.emb y 0).val = 512 * min t.val 11 + (y 0).val := by blk_simp [h0]; omega
  have e1 : y 1 = (win0_10.blk t).view.emb y 1 := by apply Fin.ext; blk_simp [h1]
  exact congrArg₂ (fun H j => rowScale H (gRow m c) j) (blk_row m c t.val (y 0) _ e0) e1

omit hL in
variable (m) in
/-- The run: the results, and the arguments as they were. -/
theorem valMain (ρ : Dev nD → PrngReg) : θ_run defs (onTc (τ := τ) (main (F := Ideal))) (s₀ m ρ) (fun r => ∀ c : Dev nD,
      r.2.mem ((c.tc : Thread nD τ).loc main_v4_0) = resQ m c
      ∧ r.2.mem ((c.tc : Thread nD τ).loc main_v4_1) = resKV m c
      ∧ r.2.mem ((c.tc : Thread nD τ).loc main_v4_2) = resPE m c
      ∧ r.2.mem ((c.tc : Thread nD τ).loc main_v4_3) = resCode m c
      ∧ r.2.mem ((c.tc : Thread nD τ).loc main_v4_4) = resScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r ⟨h, hs⟩ c => by
    obtain ⟨after, hL, hA⟩ := h.exists_exact c
    exact ⟨(hA 6).trans (arr6 hL), (hA 7).trans (arr7 hL), (hA 8).trans (arr8 hL), (hA 9).trans (arr9 hL), (hA 10).trans (arr10 hL),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans (V_main_arg2 m c),
      (h.arr_in c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (valRun m ρ)

end Cert.KernelIdeal.Hand

end
-- ==== Proof.RefPays.lean ====
/-
The pieces of the reference's body, read at an index.
-/
module

public import proofs.«01_k».proof.Proof.Scale
public import proofs.«01_k».proof.Proof.Rows
public import proofs.«01_k».proof.Proof.ProjRows
public import proofs.«01_k».proof.Proof.Gen.ReferenceIdeal.Value
public import Idealize.ShloMosaic.Lib.Pipeline.ValueKit

@[expose] public section

set_option maxHeartbeats 4000000
set_option maxRecDepth 65536

noncomputable section

namespace Cert.ReferenceIdeal.Hand

open Cert.ReferenceIdeal Cert.ReferenceIdeal.Gen Cert.Math
open Idealize.ShloMosaic Idealize.ShloMosaic.TcCoe Idealize.ShloMosaic.Tactic

/-- The normalised rows, by groups. -/
theorem norm_apply (P0 : Vec Ideal S6144x3584 .bf16) (P1 : Vec Ideal S1x3584 .bf16) (r : Fin 6144) (g : Fin 28) (l : Fin 128) :
    k0_pay3 P0 P1 (ix3 r g l) = P0 (ix2 r (col g l)) * rsOf (∑ k : Fin 3584, P0 (ix2 r k) * P0 (ix2 r k)) * P1 (ix2 0 (col g l)) := by
  have e : ∀ h : g.val * 128 + l.val < 3584, (⟨g.val * 128 + l.val, h⟩ : Fin 3584) = col g l := fun h => Fin.ext (by simp only [col]; omega)
  pointwise [k0_pay3]
  rw [e]
  rfl

/-- The codes by groups, -/
theorem code3_apply (x : FVec Ideal S6144x28x128 .f32) (s o : FVec Ideal S6144x28x1 .f32) (r : Fin 6144) (g : Fin 28) (l : Fin 128) :
    k0_pay6 x s o (ix3 r g l) = codeOf (x (ix3 r g l)) (Ideal.div (o (ix3 r g 0)) (s (ix3 r g 0))) := by
  pointwise [k0_pay6]
  rfl

/-- and laid out in rows. -/
theorem code_apply (x : FVec Ideal S6144x28x128 .f32) (s o : FVec Ideal S6144x28x1 .f32) (r : Fin 6144) (j : Fin 3584) :
    k0_pay7 x s o (ix2 r j) = k0_pay6 x s o (ix3 r (grp j) (lane j)) := by
  pointwise [k0_pay7]
  rfl

/-- The projection, -/
theorem y_apply (x : FVec Ideal S6144x28x128 .f32) (s o : FVec Ideal S6144x28x1 .f32) (W : Vec Ideal S2112x3584 .fp8e4m3) (S : Vec Ideal S2112x3584 .f32)
    (r : Fin 6144) (n : Fin 2112) :
    k0_pay9 x s o W S (ix2 r n) = ∑ k : Fin 3584, k0_pay6 x s o (ix3 r (grp k) (lane k)) * s (ix3 r (grp k) 0) * (W (ix2 n k) * S (ix2 n k)) := by
  pointwise [k0_pay9]
  rfl

/-- its second part normalised, -/
theorem kv_apply (y : FVec Ideal S6144x2112 .f32) (γ : Vec Ideal S1x512 .bf16) (r : Fin 6144) (n : Fin 512) :
    k0_pay1 y γ (ix2 r n) = y (ix2 r (outKV n)) * rsBy 0x44000000#32 (∑ j : Fin 512, y (ix2 r (outKV j)) * y (ix2 r (outKV j))) * γ (ix2 0 n) := by
  pointwise [k0_pay1]
  rfl

/-- its third part as it is -/
theorem pe_apply (y : FVec Ideal S6144x2112 .f32) (r : Fin 6144) (n : Fin 64) :
    k0_pay2 y (ix2 r n) = y (ix2 r (outPE n)) := by
  pointwise [k0_pay2]
  rfl

/-- and its first part normalised. -/
theorem q_apply (x : FVec Ideal S6144x28x128 .f32) (s o : FVec Ideal S6144x28x1 .f32) (W : Vec Ideal S2112x3584 .fp8e4m3) (S : Vec Ideal S2112x3584 .f32)
    (γ : Vec Ideal S1x1536 .bf16) (r : Fin 6144) (n : Fin 1536) :
    k0_pay10 x s o W S γ (ix2 r n) = k0_pay9 x s o W S (ix2 r (outQ n)) * rsBy 0x44C00000#32 (∑ j : Fin 1536, k0_pay9 x s o W S (ix2 r (outQ j)) * k0_pay9 x s o W S (ix2 r (outQ j))) * γ (ix2 0 n) := by
  pointwise [k0_pay10]
  rfl

end Cert.ReferenceIdeal.Hand

end
-- ==== Proof.RefScale.lean ====
/-
The reference's scales, read at an index.
-/
module

public import proofs.«01_k».proof.Proof.Scale
public import proofs.«01_k».proof.Proof.Rows
public import proofs.«01_k».proof.Proof.ProjRows
public import proofs.«01_k».proof.Proof.Gen.ReferenceIdeal.Value
public import Idealize.ShloMosaic.Lib.Pipeline.ValueKit

@[expose] public section

set_option maxHeartbeats 4000000
set_option maxRecDepth 65536

noncomputable section

namespace Cert.ReferenceIdeal.Hand

open Cert.ReferenceIdeal Cert.ReferenceIdeal.Gen Cert.Math
open Idealize.ShloMosaic Idealize.ShloMosaic.TcCoe Idealize.ShloMosaic.Tactic

/-- The greatest of each group, -/
def sGreatest (w : FVec Ideal S6144x28x128 .f32) : FVec Ideal S6144x28x1 .f32 :=
  shapeCast S6144x28x1 (multiReduction .maximumf [2] S6144x28 w 0xFF800000#32 reduces_S6144x28x128_S6144x28 (.inl rfl) rfl) shapeCasts_S6144x28_S6144x28x1
/-- over 448, -/
def sOver (a : FVec Ideal S6144x28x1 .f32) : FVec Ideal S6144x28x1 .f32 := mulf a (broadcast S6144x28x1 (Scalar.ofBits .f32 0x3B124925#32))
/-- of the absolute values, -/
def sV (x : FVec Ideal S6144x28x128 .f32) : FVec Ideal S6144x28x1 .f32 := sOver (sGreatest (absf x))
/-- the powers of two, -/
def sP : FVec Ideal S1x1x253 .f32 :=
  exp2 (sitofp .f32 (subi (iota .tc S1x1x253 32 [2] iota_S1x1x253_d2_w32) (broadcast S1x1x253 125#32)))
/-- those above the value, -/
def sAbove (v : FVec Ideal S6144x28x1 .f32) (p : FVec Ideal S1x1x253 .f32) : FVec Ideal S6144x28x253 .f32 :=
  select (cmpf .ogt (broadcastTo S6144x28x253 p broadcasts_S1x1x253_S6144x28x253) (broadcastTo S6144x28x253 v broadcasts_S6144x28x1_S6144x28x253))
    (broadcastTo S6144x28x253 (shapeCast S1x1x253 p shapeCasts_S1x1x253_S1x1x253) broadcasts_S1x1x253_S6144x28x253)
    (broadcast S6144x28x253 (Scalar.ofBits .f32 0x7F800000#32))
/-- the least of them, -/
def sLeast (w : FVec Ideal S6144x28x253 .f32) : FVec Ideal S6144x28x1 .f32 :=
  shapeCast S6144x28x1 (multiReduction .minimumf [2] S6144x28 w 0x7F800000#32 reduces_S6144x28x253_S6144x28 (.inl rfl) rfl) shapeCasts_S6144x28_S6144x28x1
/-- and the scale. -/
def sPick (v w : FVec Ideal S6144x28x1 .f32) : FVec Ideal S6144x28x1 .f32 :=
  select (cmpf .olt v (broadcast S6144x28x1 (Scalar.ofBits .f32 0x00800000#32))) (broadcast S6144x28x1 (Scalar.ofBits .f32 0x3F800000#32)) w

/-- The reference's scale is made of these parts, -/
theorem scale_parts (P0 : Vec Ideal S6144x3584 .bf16) (P1 : Vec Ideal S1x3584 .bf16) :
    k0_pay4 P0 P1 = sPick (sV (k0_pay3 P0 P1)) (sLeast (sAbove (sV (k0_pay3 P0 P1)) sP)) := rfl

theorem sGreatest_apply (w : FVec Ideal S6144x28x128 .f32) (r : Fin 6144) (g : Fin 28) :
    sGreatest w (ix3 r g 0) = (Finset.univ : Finset (Fin 128)).fold max (Ideal.ofBits .f32 0xFF800000#32) fun l => w (ix3 r g l) := by
  pointwise [sGreatest]

theorem bottom_bits : Ideal.ofBits .f32 0xFF800000#32 = ⊥ := by
  have e : ((0xFF800000#32).extractLsb' 31 1 == 1#1) = true ∧ ((0xFF800000#32).extractLsb' 23 8).toNat = 255
      ∧ ((0xFF800000#32).extractLsb' 0 23).toNat = 0 := by decide +kernel
  obtain ⟨e1, e2, e3⟩ := e
  unfold Ideal.ofBits Ideal.ieee
  simp only [show (8 + 23 : Nat) = 31 from rfl, e1, e2, e3]
  rw [if_pos (by omega)]
  simp

theorem sOver_apply (a : FVec Ideal S6144x28x1 .f32) (i) : sOver a i = a i * Ideal.ofBits .f32 0x3B124925#32 := by unfold sOver; rfl

theorem abs_apply (x : FVec Ideal S6144x28x128 .f32) (i) : absf x i = max (x i) (-(x i)) := rfl

theorem sV_apply (x : FVec Ideal S6144x28x128 .f32) (r : Fin 6144) (g : Fin 28) : sV x (ix3 r g 0) = grpV fun l => x (ix3 r g l) := by
  unfold sV grpV
  rw [sOver_apply, sGreatest_apply, bottom_bits]
  exact congrArg (fun f => (Finset.univ : Finset (Fin 128)).fold max ⊥ f * Ideal.ofBits .f32 0x3B124925#32) (funext fun l => abs_apply x _)

theorem sP_apply (j : Fin 253) : sP (ix3 0 0 j) = step j := by
  pointwise [sP]
  rfl

theorem sAbove_apply (v : FVec Ideal S6144x28x1 .f32) (p : FVec Ideal S1x1x253 .f32) (r : Fin 6144) (g : Fin 28) (j : Fin 253) :
    sAbove v p (ix3 r g j) = if v (ix3 r g 0) < p (ix3 0 0 j) then p (ix3 0 0 j) else Ideal.ofBits .f32 0x7F800000#32 := by
  pointwise [sAbove]

theorem sLeast_apply (w : FVec Ideal S6144x28x253 .f32) (r : Fin 6144) (g : Fin 28) :
    sLeast w (ix3 r g 0) = (Finset.univ : Finset (Fin 253)).fold min (Ideal.ofBits .f32 0x7F800000#32) fun j => w (ix3 r g j) := by
  pointwise [sLeast]

theorem sPick_apply (v w : FVec Ideal S6144x28x1 .f32) (r : Fin 6144) (g : Fin 28) :
    sPick v w (ix3 r g 0) = if v (ix3 r g 0) < Ideal.ofBits .f32 0x00800000#32 then Ideal.ofBits .f32 0x3F800000#32 else w (ix3 r g 0) := by
  pointwise [sPick]

/-- and is the least power of two above the group's maximum over 448. -/
theorem scale_apply (P0 : Vec Ideal S6144x3584 .bf16) (P1 : Vec Ideal S1x3584 .bf16) (r : Fin 6144) (g : Fin 28) :
    k0_pay4 P0 P1 (ix3 r g 0) = rScale (grpV fun l => k0_pay3 P0 P1 (ix3 r g l)) := by
  have h : (fun j : Fin 253 => sAbove (sV (k0_pay3 P0 P1)) sP (ix3 r g j))
      = fun j => if (grpV fun l => k0_pay3 P0 P1 (ix3 r g l)) < step j then step j else Ideal.ofBits .f32 0x7F800000#32 := by
    funext j
    rw [sAbove_apply, sV_apply, sP_apply]
  rw [scale_parts, sPick_apply, sLeast_apply, sV_apply, h]
  unfold rScale
  with_reducible rfl

end Cert.ReferenceIdeal.Hand

end
-- ==== Proof.RefRows.lean ====
/-
A row of the reference: its values, and what its body leaves in terms of them.
-/
module

public import proofs.«01_k».proof.Proof.RefPays
public import proofs.«01_k».proof.Proof.RefScale

@[expose] public section

set_option maxHeartbeats 4000000
set_option maxRecDepth 65536

noncomputable section

namespace Cert.Math

open Idealize.ShloMosaic

/-- The normalised row, the squares summed at once, -/
def pX (H G : Fin 3584 → EReal) (j : Fin 3584) : EReal := H j * rsOf (∑ k : Fin 3584, H k * H k) * G j
/-- its group maxima over 448, -/
def pV (H G : Fin 3584 → EReal) (g : Fin 28) : EReal := grpV fun l => pX H G (col g l)
/-- its scales, -/
def pScale (H G : Fin 3584 → EReal) (g : Fin 28) : EReal := rScale (pV H G g)
/-- its codes, -/
def pCode (H G : Fin 3584 → EReal) (j : Fin 3584) : EReal := codeOf (pX H G j) (Ideal.div 1 (pScale H G (grp j)))
/-- and the codes times the scales. -/
def pDeq (H G : Fin 3584 → EReal) (j : Fin 3584) : EReal := pCode H G j * pScale H G (grp j)

end Cert.Math

namespace Cert.ReferenceIdeal.Hand

open Cert.ReferenceIdeal Cert.ReferenceIdeal.Gen Cert.Math
open Idealize.ShloMosaic Idealize.ShloMosaic.TcCoe Idealize.ShloMosaic.Tactic

variable (P0 : Vec Ideal S6144x3584 .bf16) (P1 : Vec Ideal S1x3584 .bf16) (P2 : Vec Ideal S2112x3584 .fp8e4m3) (P3 : Vec Ideal S2112x3584 .f32)

/-- Row `r`, -/
abbrev rowAt (r : Fin 6144) : Fin 3584 → EReal := fun j => P0 (ix2 r j)
/-- the row of weights of the norm -/
abbrev rowOne : Fin 3584 → EReal := fun j => P1 (ix2 0 j)
/-- and the dequantised weights. -/
abbrev matOf : Fin 2112 → Fin 3584 → EReal := fun n k => P2 (ix2 n k) * P3 (ix2 n k)

theorem scale_row (r : Fin 6144) (g : Fin 28) : k0_pay4 P0 P1 (ix3 r g 0) = pScale (rowAt P0 r) (rowOne P1) g := by
  rw [scale_apply]
  unfold pScale pV
  exact congrArg (fun f => rScale (grpV f)) (funext fun l => norm_apply P0 P1 r g l)

theorem ones (r : Fin 6144) (g : Fin 28) : k0_pay5 (F := Ideal) (ix3 r g 0) = 1 := one_bits

theorem code_row3 (r : Fin 6144) (j : Fin 3584) :
    k0_pay6 (k0_pay3 P0 P1) (k0_pay4 P0 P1) k0_pay5 (ix3 r (grp j) (lane j)) = pCode (rowAt P0 r) (rowOne P1) j := by
  rw [code3_apply, norm_apply, scale_row, ones, col_grp]
  rfl

theorem code_row (r : Fin 6144) (j : Fin 3584) :
    k0_pay7 (k0_pay3 P0 P1) (k0_pay4 P0 P1) k0_pay5 (ix2 r j) = pCode (rowAt P0 r) (rowOne P1) j := by
  rw [code_apply, code_row3]

theorem y_row (r : Fin 6144) (n : Fin 2112) :
    k0_pay9 (k0_pay3 P0 P1) (k0_pay4 P0 P1) k0_pay5 P2 P3 (ix2 r n) = rowY (pDeq (rowAt P0 r) (rowOne P1)) (matOf P2 P3) n := by
  rw [y_apply]
  unfold rowY
  refine Finset.sum_congr rfl fun k _ => ?_
  rw [code_row3, scale_row]
  rfl

theorem q_row (γ : Vec Ideal S1x1536 .bf16) (r : Fin 6144) (n : Fin 1536) :
    k0_pay10 (k0_pay3 P0 P1) (k0_pay4 P0 P1) k0_pay5 P2 P3 γ (ix2 r n)
      = rowQ (pDeq (rowAt P0 r) (rowOne P1)) (matOf P2 P3) (fun j => γ (ix2 0 j)) n := by
  rw [q_apply]
  simp only [y_row]
  rfl

theorem kv_row (γ : Vec Ideal S1x512 .bf16) (r : Fin 6144) (n : Fin 512) :
    k0_pay1 (k0_pay9 (k0_pay3 P0 P1) (k0_pay4 P0 P1) k0_pay5 P2 P3) γ (ix2 r n)
      = rowKV (pDeq (rowAt P0 r) (rowOne P1)) (matOf P2 P3) (fun j => γ (ix2 0 j)) n := by
  rw [kv_apply]
  simp only [y_row]
  rfl

theorem pe_row (r : Fin 6144) (n : Fin 64) :
    k0_pay2 (k0_pay9 (k0_pay3 P0 P1) (k0_pay4 P0 P1) k0_pay5 P2 P3) (ix2 r n)
      = rowPE (pDeq (rowAt P0 r) (rowOne P1)) (matOf P2 P3) n := by
  rw [pe_apply, y_row]
  rfl

theorem scales_row (r : Fin 6144) (g : Fin 28) : k0_pay8 (k0_pay4 P0 P1) (ix2 r g) = pScale (rowAt P0 r) (rowOne P1) g := by
  have e : k0_pay8 (k0_pay4 P0 P1) (ix2 r g) = k0_pay4 P0 P1 (ix3 r g 0) := by pointwise [k0_pay8]
  rw [e, scale_row]

end Cert.ReferenceIdeal.Hand

end
-- ==== Proof.Operands.lean ====
/-
What the two programs' pipelines read of the six arguments after the reshapes on the host.
-/
module

public import proofs.«01_k».proof.Proof.ValueArrays
public import proofs.«01_k».proof.Proof.RefRows

@[expose] public section

set_option maxHeartbeats 1000000

noncomputable section

namespace Cert.Operands

open Idealize.ShloMosaic Idealize.ShloMosaic.TcCoe Idealize.ShloMosaic.Tactic
open Cert.Math

section Kernel
open Cert.KernelIdeal Cert.KernelIdeal.Gen

variable (m : (ℓ : Loc nD τ sig) → Buf (Elt Ideal) ℓ) (c : Dev nD)

theorem k_hidden (r : Fin 6144) (j : Fin 3584) : V m c main_v0 (ix2 r j)
    = m (c, Proc.tc.devRef main_arg0) (ix3 ⟨r.val / 2048, by omega⟩ ⟨r.val % 2048, by omega⟩ j) := by
  entry_read; pointwise

theorem k_gamma (j : Fin 3584) : V m c main_v1 (ix2 0 j) = m (c, Proc.tc.devRef main_arg1) (ix1 j) := by
  entry_read; pointwise

theorem k_q (j : Fin 1536) : V m c main_v2 (ix2 0 j) = m (c, Proc.tc.devRef main_arg4) (ix1 j) := by
  entry_read; pointwise

theorem k_kv (j : Fin 512) : V m c main_v3 (ix2 0 j) = m (c, Proc.tc.devRef main_arg5) (ix1 j) := by
  entry_read; pointwise

end Kernel

section Reference
open Cert.ReferenceIdeal Cert.ReferenceIdeal.Gen

variable (m : (ℓ : Loc nD τ sig) → Buf (Elt Ideal) ℓ) (c : Dev nD)

theorem r_hidden (r : Fin 6144) (j : Fin 3584) : V m c main_v5 (ix2 r j)
    = m (c, Proc.tc.devRef main_arg0) (ix3 ⟨r.val / 2048, by omega⟩ ⟨r.val % 2048, by omega⟩ j) := by
  entry_read; pointwise

theorem r_gamma (j : Fin 3584) : V m c main_v6 (ix2 0 j) = m (c, Proc.tc.devRef main_arg1) (ix1 j) := by
  entry_read; pointwise

theorem r_q (j : Fin 1536) : V m c main_v7 (ix2 0 j) = m (c, Proc.tc.devRef main_arg4) (ix1 j) := by
  entry_read; pointwise

theorem r_kv (j : Fin 512) : V m c main_v8 (ix2 0 j) = m (c, Proc.tc.devRef main_arg5) (ix1 j) := by
  entry_read; pointwise

theorem r_scale (n : Fin 2112) (j : Fin 3584) : V m c main_v4 (ix2 n j)
    = m (c, Proc.tc.devRef main_arg3) (ix2 ⟨n.val / 128, by omega⟩ ⟨j.val / 128, by omega⟩) := by
  entry_read; pointwise

end Reference

end Cert.Operands

end
-- ==== Proof.Bound.lean ====
/-
A normalised row is bounded: whatever the row, an entry times the row's normaliser is at most 60 in absolute value.
With finite weights the group maxima over 448 are then below 2^126, where the two scales are one.
-/
module

public import proofs.«01_k».proof.Proof.Scale
public import proofs.«01_k».proof.Proof.Rows

@[expose] public section

set_option maxHeartbeats 1000000

noncomputable section

namespace Cert.Math

open Idealize.ShloMosaic

theorem bits_row : Ideal.ofBits .f32 0x45600000#32 = ((3584 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  positivity

theorem bits_448 : ∃ e : ℝ, 0 < e ∧ e < 1 / 447 ∧ Ideal.ofBits .f32 0x3B124925#32 = (e : EReal) := by
  refine ⟨_, ?_, ?_, by simp [Ideal.ofBits, Ideal.ieee, -EReal.coe_mul]; rfl⟩
  · positivity
  · norm_num

theorem bits_fin : ∃ e : ℝ, 0 < e ∧ e < 2 ^ 128 ∧ Ideal.ofBits .f32 0x7F7F0000#32 = (e : EReal) := by
  refine ⟨_, ?_, ?_, by simp [Ideal.ofBits, Ideal.ieee, -EReal.coe_mul]; rfl⟩
  · positivity
  · norm_num

theorem rsOf_top : rsOf ⊤ = 0 := by
  obtain ⟨e, he, h⟩ := bits_eps
  unfold rsOf
  rw [bits_row, h]
  have h0 : ((3584 : ℝ) : EReal) ≠ 0 := by norm_num
  have h1 : Ideal.div ⊤ ((3584 : ℝ) : EReal) = ⊤ := by
    unfold Ideal.div
    rw [if_neg h0, ← EReal.coe_inv]
    exact EReal.top_mul_coe_of_pos (by norm_num)
  rw [h1, EReal.top_add_coe]
  rfl

theorem rsOf_coe (s : ℝ) (hs : 0 ≤ s) : ∃ e : ℝ, 0 < e ∧ rsOf (s : EReal) = (((Real.sqrt (s / 3584 + e))⁻¹ : ℝ) : EReal) := by
  obtain ⟨e, he, h⟩ := bits_eps
  refine ⟨e, he, ?_⟩
  unfold rsOf
  rw [bits_row, h]
  have h0 : ((3584 : ℝ) : EReal) ≠ 0 := by norm_num
  have h1 : Ideal.div (s : EReal) ((3584 : ℝ) : EReal) = ((s / 3584 : ℝ) : EReal) := by
    unfold Ideal.div
    rw [if_neg h0, ← EReal.coe_inv, ← EReal.coe_mul, div_eq_mul_inv]
  rw [h1, ← EReal.coe_add]
  have hp : 0 < s / 3584 + e := by positivity
  show (if s / 3584 + e < 0 then ⊥ else if s / 3584 + e = 0 then ⊤ else (((Real.sqrt (s / 3584 + e))⁻¹ : ℝ) : EReal)) = _
  rw [if_neg (not_lt.mpr hp.le), if_neg hp.ne']

theorem sq_nonneg' (x : EReal) : 0 ≤ x * x := by
  induction x with
  | bot => simp
  | top => simp
  | coe r => rw [← EReal.coe_mul]; exact_mod_cast mul_self_nonneg r

/-- An entry times the normaliser of a row of which it is one: a number of absolute value at most 60. -/
theorem norm_le (H : Fin 3584 → EReal) (j : Fin 3584) :
    ∃ a : ℝ, |a| ≤ 60 ∧ H j * rsOf (∑ k : Fin 3584, H k * H k) = (a : EReal) := by
  have hle : H j * H j ≤ ∑ k : Fin 3584, H k * H k :=
    Finset.single_le_sum (f := fun k => H k * H k) (fun k _ => sq_nonneg' (H k)) (Finset.mem_univ j)
  generalize (∑ k : Fin 3584, H k * H k) = S at hle
  have h0 : 0 ≤ S := (sq_nonneg' _).trans hle
  generalize H j = x at hle
  induction S with
  | bot => exact absurd h0 (by simp)
  | top => exact ⟨0, by norm_num, by rw [rsOf_top, mul_zero]; rfl⟩
  | coe s =>
    have hs : 0 ≤ s := by exact_mod_cast h0
    induction x with
    | bot => simp at hle
    | top => simp at hle
    | coe h =>
      obtain ⟨e, he, hr⟩ := rsOf_coe s hs
      refine ⟨h * (Real.sqrt (s / 3584 + e))⁻¹, ?_, by rw [hr, EReal.coe_mul]⟩
      have hhs : h * h ≤ s := by rw [← EReal.coe_mul] at hle; exact_mod_cast hle
      have hp : 0 < s / 3584 + e := by positivity
      rw [abs_mul, abs_of_pos (a := (Real.sqrt (s / 3584 + e))⁻¹) (by positivity), ← div_eq_mul_inv, div_le_iff₀ (Real.sqrt_pos.mpr hp)]
      apply abs_le_of_sq_le_sq' _ (by positivity) |> abs_le.mpr
      rw [mul_pow, Real.sq_sqrt hp.le]
      nlinarith

theorem abs_coe (a : ℝ) : max (a : EReal) (-(a : EReal)) = ((|a| : ℝ) : EReal) := by
  rw [← EReal.coe_neg]
  exact (EReal.coe_strictMono.monotone.map_max (a := a) (b := -a)).symm

/-- The group maxima over 448, of entries that are at most `60 * 2^128`. -/
theorem grpV_bound (x : Fin 128 → EReal) (hx : ∀ l, ∃ a : ℝ, |a| ≤ 60 * 2 ^ 128 ∧ x l = (a : EReal)) :
    0 ≤ grpV x ∧ grpV x < pow 253 := by
  obtain ⟨e, he, he', h⟩ := bits_448
  have key : ∃ b : ℝ, 0 ≤ b ∧ b ≤ 60 * 2 ^ 128 ∧ (Finset.univ : Finset (Fin 128)).fold max ⊥ (fun l => max (x l) (-(x l))) = (b : EReal) := by
    have hl : ((0 : ℝ) : EReal) ≤ (Finset.univ : Finset (Fin 128)).fold max ⊥ (fun l => max (x l) (-(x l))) := by
      refine (Finset.le_fold_max _).mpr (Or.inr ⟨0, Finset.mem_univ _, ?_⟩)
      obtain ⟨a, -, ha⟩ := hx 0
      rw [ha, abs_coe]
      exact_mod_cast (abs_nonneg a)
    have hu : (Finset.univ : Finset (Fin 128)).fold max ⊥ (fun l => max (x l) (-(x l))) ≤ ((60 * 2 ^ 128 : ℝ) : EReal) := by
      refine (Finset.fold_max_le _).mpr ⟨bot_le, fun l _ => ?_⟩
      obtain ⟨a, h1, ha⟩ := hx l
      rw [ha, abs_coe]
      exact_mod_cast h1
    generalize (Finset.univ : Finset (Fin 128)).fold max ⊥ (fun l => max (x l) (-(x l))) = M at hl hu
    induction M with
    | bot => exact absurd hl (by simp)
    | top => exact absurd hu (not_le.mpr (EReal.coe_lt_top _))
    | coe b => exact ⟨b, by exact_mod_cast hl, by exact_mod_cast hu, rfl⟩
  obtain ⟨b, hb0, hb1, hb⟩ := key
  unfold grpV
  rw [hb, h, ← EReal.coe_mul, pow_eq 253 (by norm_num) (by norm_num)]
  constructor
  · exact_mod_cast mul_nonneg hb0 he.le
  · rw [EReal.coe_lt_coe_iff]
    have h1 : b * e ≤ 60 * 2 ^ 128 * e := mul_le_mul_of_nonneg_right hb1 he.le
    have h2 : 60 * 2 ^ 128 * e < 60 * 2 ^ 128 * (1 / 447 : ℝ) := mul_lt_mul_of_pos_left he' (by norm_num)
    refine lt_of_le_of_lt h1 (lt_trans h2 ?_)
    norm_num

end Cert.Math

end
-- ==== Proof.RowsAgree.lean ====
/-
The row as the kernel computes it and as the reference does: one row, where the weights of the norm are finite.
-/
module

public import proofs.«01_k».proof.Proof.Bound
public import proofs.«01_k».proof.Proof.RefRows

@[expose] public section

set_option maxHeartbeats 1000000

noncomputable section

namespace Cert.Math

open Idealize.ShloMosaic

/-- Columns as group and lane. -/
def colEquiv : Fin 28 × Fin 128 ≃ Fin 3584 where
  toFun p := col p.1 p.2
  invFun j := (grp j, lane j)
  left_inv p := by
    refine Prod.ext (grp_col p.1 p.2) (Fin.ext ?_)
    show (col p.1 p.2).val % 128 = p.2.val
    simp only [col]; omega
  right_inv j := col_grp j

theorem sum_cols (f : Fin 3584 → EReal) : (∑ l : Fin 128, ∑ g : Fin 28, f (col g l)) = ∑ j : Fin 3584, f j := by
  rw [Finset.sum_comm, ← Fintype.sum_prod_type' (f := fun g l => f (col g l))]
  exact Fintype.sum_equiv colEquiv _ _ fun p => rfl

variable (H G : Fin 3584 → EReal)

theorem rowX_eq : rowX H G = pX H G := by
  funext j
  unfold rowX pX rowRs
  rw [sum_cols fun j => H j * H j]

/-- Weights that are at most bf16's greatest number in absolute value. -/
def Finite : Prop := ∀ j, ∃ b : ℝ, |b| ≤ 2 ^ 128 ∧ G j = (b : EReal)

variable {G}

theorem pV_bound (hG : Finite G) (g : Fin 28) : 0 ≤ pV H G g ∧ pV H G g < pow 253 := by
  refine grpV_bound _ fun l => ?_
  obtain ⟨a, ha, e⟩ := norm_le H (col g l)
  obtain ⟨b, hb, e'⟩ := hG (col g l)
  refine ⟨a * b, ?_, ?_⟩
  · rw [abs_mul]
    exact mul_le_mul ha hb (abs_nonneg b) (by norm_num)
  · unfold pX
    rw [e, e', EReal.coe_mul]

theorem rowV_eq (g : Fin 28) : rowV H G g = pV H G g := by
  unfold rowV pV
  rw [rowX_eq]

theorem rowScale_eq (hG : Finite G) (g : Fin 28) : rowScale H G g = pScale H G g := by
  unfold rowScale pScale
  rw [rowV_eq]
  exact (scale_eq _ (pV_bound H hG g).1 (pV_bound H hG g).2).1

theorem rowCode_eq (hG : Finite G) (j : Fin 3584) : rowCode H G j = pCode H G j := by
  unfold rowCode pCode pScale
  rw [rowV_eq, rowX_eq, (scale_eq _ (pV_bound H hG (grp j)).1 (pV_bound H hG (grp j)).2).2]

theorem rowDeq_eq (hG : Finite G) : rowDeq H G = pDeq H G := by
  funext j
  unfold rowDeq pDeq
  rw [rowCode_eq H hG, rowScale_eq H hG]

/-- The precondition at one weight. -/
theorem finite_of (x : EReal) (h : max x (-x) ≤ Ideal.ofBits .f32 0x7F7F0000#32) : ∃ b : ℝ, |b| ≤ 2 ^ 128 ∧ x = (b : EReal) := by
  obtain ⟨e, -, he, hb⟩ := bits_fin
  rw [hb] at h
  induction x with
  | bot => exact absurd h (by simp)
  | top => exact absurd h (by simp)
  | coe b =>
    refine ⟨b, ?_, rfl⟩
    rw [abs_coe] at h
    have h' : |b| ≤ e := by exact_mod_cast h
    exact h'.trans he.le

end Cert.Math

end
-- ==== Proof.RefOut.lean ====
/-
What the reference's body leaves in each result, row by row.
-/
module

public import Idealize.ShloMosaic.Lib.Pipeline.ValueKit.Point
public import proofs.«01_k».proof.Proof.RefRows

@[expose] public section

set_option maxHeartbeats 4000000
set_option maxRecDepth 65536

noncomputable section

namespace Cert.ReferenceIdeal.Hand

open Cert.ReferenceIdeal Cert.ReferenceIdeal.Gen Cert.Math
open Idealize.ShloMosaic Idealize.ShloMosaic.TcCoe Idealize.ShloMosaic.Tactic
open Idealize.SL Idealize.SL.Sem
open Idealize.ShloMosaic.Pipeline (Dat RDat)

theorem hz : (![0, 0] : Fin 2 → ℕ) = fun _ => 0 := by funext a; fin_cases a <;> rfl

/-! A load of a whole block is the block. -/

theorem ld0 (P : Vec Ideal S6144x3584 .bf16) : View.ld P r0_0 = P := View.ld_unit_zero hz _ P
theorem ld1 (P : Vec Ideal S1x3584 .bf16) : View.ld P r0_1 = P := View.ld_unit_zero hz _ P
theorem ld2 (P : Vec Ideal S2112x3584 .fp8e4m3) : View.ld P r0_3 = P := View.ld_unit_zero hz _ P
theorem ld3 (P : Vec Ideal S2112x3584 .f32) : View.ld P r0_3 = P := View.ld_unit_zero hz _ P
theorem ld4 (P : Vec Ideal S1x1536 .bf16) : View.ld P r0_4 = P := View.ld_unit_zero hz _ P
theorem ld5 (P : Vec Ideal S1x512 .bf16) : View.ld P r0_6 = P := View.ld_unit_zero hz _ P

theorem out6_row (P0 : Vec Ideal S6144x3584 .bf16) (P1 : Vec Ideal S1x3584 .bf16) (P2 : Vec Ideal S2112x3584 .fp8e4m3) (P3 : Vec Ideal S2112x3584 .f32) (P4 : Vec Ideal S1x1536 .bf16) (P5 : Vec Ideal S1x512 .bf16) (r : Fin 6144) (n : Fin 1536) :
    out0_6 P0 P1 P2 P3 P4 P5 (ix2 r n) = rowQ (pDeq (rowAt P0 r) (rowOne P1)) (matOf P2 P3) (fun j => P4 (ix2 0 j)) n := by
  unfold_out out0_6
  rw [ld0, ld1, ld2, ld3, ld4]
  rw [View.canon_unit_zero hz]
  exact q_row P0 P1 P2 P3 P4 r n

theorem out7_row (P0 : Vec Ideal S6144x3584 .bf16) (P1 : Vec Ideal S1x3584 .bf16) (P2 : Vec Ideal S2112x3584 .fp8e4m3) (P3 : Vec Ideal S2112x3584 .f32) (P4 : Vec Ideal S1x1536 .bf16) (P5 : Vec Ideal S1x512 .bf16) (r : Fin 6144) (n : Fin 512) :
    out0_7 P0 P1 P2 P3 P4 P5 (ix2 r n) = rowKV (pDeq (rowAt P0 r) (rowOne P1)) (matOf P2 P3) (fun j => P5 (ix2 0 j)) n := by
  unfold_out out0_7
  rw [ld0, ld1, ld2, ld3, ld5]
  rw [View.canon_unit_zero hz]
  exact kv_row P0 P1 P2 P3 P5 r n

theorem out8_row (P0 : Vec Ideal S6144x3584 .bf16) (P1 : Vec Ideal S1x3584 .bf16) (P2 : Vec Ideal S2112x3584 .fp8e4m3) (P3 : Vec Ideal S2112x3584 .f32) (P4 : Vec Ideal S1x1536 .bf16) (P5 : Vec Ideal S1x512 .bf16) (r : Fin 6144) (n : Fin 64) :
    out0_8 P0 P1 P2 P3 P4 P5 (ix2 r n) = rowPE (pDeq (rowAt P0 r) (rowOne P1)) (matOf P2 P3) n := by
  unfold_out out0_8
  rw [ld0, ld1, ld2, ld3]
  rw [View.canon_unit_zero hz]
  exact pe_row P0 P1 P2 P3 r n

theorem out9_row (P0 : Vec Ideal S6144x3584 .bf16) (P1 : Vec Ideal S1x3584 .bf16) (P2 : Vec Ideal S2112x3584 .fp8e4m3) (P3 : Vec Ideal S2112x3584 .f32) (P4 : Vec Ideal S1x1536 .bf16) (P5 : Vec Ideal S1x512 .bf16) (r : Fin 6144) (n : Fin 3584) :
    out0_9 P0 P1 P2 P3 P4 P5 (ix2 r n) = pCode (rowAt P0 r) (rowOne P1) n := by
  unfold_out out0_9
  rw [ld0, ld1]
  rw [View.canon_unit_zero hz]
  exact code_row P0 P1 r n

theorem out10_row (P0 : Vec Ideal S6144x3584 .bf16) (P1 : Vec Ideal S1x3584 .bf16) (P2 : Vec Ideal S2112x3584 .fp8e4m3) (P3 : Vec Ideal S2112x3584 .f32) (P4 : Vec Ideal S1x1536 .bf16) (P5 : Vec Ideal S1x512 .bf16) (r : Fin 6144) (n : Fin 28) :
    out0_10 P0 P1 P2 P3 P4 P5 (ix2 r n) = pScale (rowAt P0 r) (rowOne P1) n := by
  unfold_out out0_10
  rw [ld0, ld1]
  rw [View.canon_unit_zero hz]
  exact scales_row P0 P1 r n

end Cert.ReferenceIdeal.Hand

end
-- ==== Proof.RefArrays.lean ====
/-
The result arrays of the reference after the run, as functions of the arrays that its region finds.
-/
module

public import Idealize.ShloMosaic.Lib.Pipeline.ValueKit.Point
public import proofs.«01_k».proof.Proof.RefOut

@[expose] public section

set_option maxHeartbeats 4000000
set_option maxRecDepth 65536

noncomputable section

namespace Cert.ReferenceIdeal.Hand

open Cert.ReferenceIdeal Cert.ReferenceIdeal.Gen Cert.Math
open Idealize.ShloMosaic Idealize.ShloMosaic.TcCoe Idealize.ShloMosaic.Tactic
open Idealize.SL Idealize.SL.Sem
open Idealize.ShloMosaic.Pipeline (Dat RDat)

variable (m : (ℓ : Loc nD τ sig) → Buf (Elt Ideal) ℓ) (c : Dev nD)

theorem index0 : ∀ t : Fin cfg0.N, (cfg0.win 0).index t 0 = 0 ∧ (cfg0.win 0).index t 1 = 0 := by decide +kernel
theorem index1 : ∀ t : Fin cfg0.N, (cfg0.win 1).index t 0 = 0 ∧ (cfg0.win 1).index t 1 = 0 := by decide +kernel
theorem index2 : ∀ t : Fin cfg0.N, (cfg0.win 2).index t 0 = 0 ∧ (cfg0.win 2).index t 1 = 0 := by decide +kernel
theorem index3 : ∀ t : Fin cfg0.N, (cfg0.win 3).index t 0 = 0 ∧ (cfg0.win 3).index t 1 = 0 := by decide +kernel
theorem index4 : ∀ t : Fin cfg0.N, (cfg0.win 4).index t 0 = 0 ∧ (cfg0.win 4).index t 1 = 0 := by decide +kernel
theorem index5 : ∀ t : Fin cfg0.N, (cfg0.win 5).index t 0 = 0 ∧ (cfg0.win 5).index t 1 = 0 := by decide +kernel
theorem index6 : ∀ t : Fin cfg0.N, (cfg0.win 6).index t 0 = 0 ∧ (cfg0.win 6).index t 1 = 0 := by decide +kernel
theorem index7 : ∀ t : Fin cfg0.N, (cfg0.win 7).index t 0 = 0 ∧ (cfg0.win 7).index t 1 = 0 := by decide +kernel
theorem index8 : ∀ t : Fin cfg0.N, (cfg0.win 8).index t 0 = 0 ∧ (cfg0.win 8).index t 1 = 0 := by decide +kernel
theorem index9 : ∀ t : Fin cfg0.N, (cfg0.win 9).index t 0 = 0 ∧ (cfg0.win 9).index t 1 = 0 := by decide +kernel
theorem index10 : ∀ t : Fin cfg0.N, (cfg0.win 10).index t 0 = 0 ∧ (cfg0.win 10).index t 1 = 0 := by decide +kernel

/-! The region's one point finds every array whole. -/

theorem iblk0 (t : Fin cfg0.N) : iblk m c 0 t = V m c main_v5 := by
  funext y
  have h0 := (index0 t).1
  have h1 := (index0 t).2
  blk_ext [iblk, h0, h1]

theorem iblk1 (t : Fin cfg0.N) : iblk m c 1 t = V m c main_v6 := by
  funext y
  have h0 := (index1 t).1
  have h1 := (index1 t).2
  blk_ext [iblk, h0, h1]

theorem iblk2 (t : Fin cfg0.N) : iblk m c 2 t = V m c main_arg2 := by
  funext y
  have h0 := (index2 t).1
  have h1 := (index2 t).2
  blk_ext [iblk, h0, h1]

theorem iblk3 (t : Fin cfg0.N) : iblk m c 3 t = V m c main_v4 := by
  funext y
  have h0 := (index3 t).1
  have h1 := (index3 t).2
  blk_ext [iblk, h0, h1]

theorem iblk4 (t : Fin cfg0.N) : iblk m c 4 t = V m c main_v7 := by
  funext y
  have h0 := (index4 t).1
  have h1 := (index4 t).2
  blk_ext [iblk, h0, h1]

theorem iblk5 (t : Fin cfg0.N) : iblk m c 5 t = V m c main_v8 := by
  funext y
  have h0 := (index5 t).1
  have h1 := (index5 t).2
  blk_ext [iblk, h0, h1]

/-- The rows as the region finds them, the weights of the norm, the dequantised weights, -/
abbrev hRow (r : Fin 6144) : Fin 3584 → EReal := rowAt (V m c main_v5) r
abbrev gRow : Fin 3584 → EReal := rowOne (V m c main_v6)
abbrev wMat : Fin 2112 → Fin 3584 → EReal := matOf (V m c main_arg2) (V m c main_v4)
/-- and the five results. -/
def resQ (y : S6144x1536.Idx) : EReal := rowQ (pDeq (hRow m c (y 0)) (gRow m c)) (wMat m c) (fun j => V m c main_v7 (ix2 0 j)) (y 1)
def resKV (y : S6144x512.Idx) : EReal := rowKV (pDeq (hRow m c (y 0)) (gRow m c)) (wMat m c) (fun j => V m c main_v8 (ix2 0 j)) (y 1)
def resPE (y : S6144x64.Idx) : EReal := rowPE (pDeq (hRow m c (y 0)) (gRow m c)) (wMat m c) (y 1)
def resCode (y : S6144x3584.Idx) : EReal := pCode (hRow m c (y 0)) (gRow m c) (y 1)
def resScale (y : S6144x28.Idx) : EReal := pScale (hRow m c (y 0)) (gRow m c) (y 1)

theorem arr6 : (dats m 0 c).arrAt 6 cfg0.N = resQ m c := by
  refine Dat.arrAt_eq_of_covers _ 6 _ (by decide +kernel) fun t hf y => ?_
  have h0 := (index6 t).1
  have h1 := (index6 t).2
  blk_simp
  rw [after0_6, iblk0, iblk1, iblk2, iblk3, iblk4, iblk5]
  have e : (win0_6.blk t).view.emb y = y := by
    funext a; apply Fin.ext; fin_cases a
    · blk_simp [h0]
    · blk_simp [h1]
  rw [e]
  unfold resQ
  exact (congrArg (out0_6 (V m c main_v5) (V m c main_v6) (V m c main_arg2) (V m c main_v4) (V m c main_v7) (V m c main_v8)) (ix2_eta y).symm).trans (out6_row (V m c main_v5) (V m c main_v6) (V m c main_arg2) (V m c main_v4) (V m c main_v7) (V m c main_v8) (y 0) (y 1))

theorem arr7 : (dats m 0 c).arrAt 7 cfg0.N = resKV m c := by
  refine Dat.arrAt_eq_of_covers _ 7 _ (by decide +kernel) fun t hf y => ?_
  have h0 := (index7 t).1
  have h1 := (index7 t).2
  blk_simp
  rw [after0_7, iblk0, iblk1, iblk2, iblk3, iblk4, iblk5]
  have e : (win0_7.blk t).view.emb y = y := by
    funext a; apply Fin.ext; fin_cases a
    · blk_simp [h0]
    · blk_simp [h1]
  rw [e]
  unfold resKV
  exact (congrArg (out0_7 (V m c main_v5) (V m c main_v6) (V m c main_arg2) (V m c main_v4) (V m c main_v7) (V m c main_v8)) (ix2_eta y).symm).trans (out7_row (V m c main_v5) (V m c main_v6) (V m c main_arg2) (V m c main_v4) (V m c main_v7) (V m c main_v8) (y 0) (y 1))

theorem arr8 : (dats m 0 c).arrAt 8 cfg0.N = resPE m c := by
  refine Dat.arrAt_eq_of_covers _ 8 _ (by decide +kernel) fun t hf y => ?_
  have h0 := (index8 t).1
  have h1 := (index8 t).2
  blk_simp
  rw [after0_8, iblk0, iblk1, iblk2, iblk3, iblk4, iblk5]
  have e : (win0_8.blk t).view.emb y = y := by
    funext a; apply Fin.ext; fin_cases a
    · blk_simp [h0]
    · blk_simp [h1]
  rw [e]
  unfold resPE
  exact (congrArg (out0_8 (V m c main_v5) (V m c main_v6) (V m c main_arg2) (V m c main_v4) (V m c main_v7) (V m c main_v8)) (ix2_eta y).symm).trans (out8_row (V m c main_v5) (V m c main_v6) (V m c main_arg2) (V m c main_v4) (V m c main_v7) (V m c main_v8) (y 0) (y 1))

theorem arr9 : (dats m 0 c).arrAt 9 cfg0.N = resCode m c := by
  refine Dat.arrAt_eq_of_covers _ 9 _ (by decide +kernel) fun t hf y => ?_
  have h0 := (index9 t).1
  have h1 := (index9 t).2
  blk_simp
  rw [after0_9, iblk0, iblk1, iblk2, iblk3, iblk4, iblk5]
  have e : (win0_9.blk t).view.emb y = y := by
    funext a; apply Fin.ext; fin_cases a
    · blk_simp [h0]
    · blk_simp [h1]
  rw [e]
  unfold resCode
  exact (congrArg (out0_9 (V m c main_v5) (V m c main_v6) (V m c main_arg2) (V m c main_v4) (V m c main_v7) (V m c main_v8)) (ix2_eta y).symm).trans (out9_row (V m c main_v5) (V m c main_v6) (V m c main_arg2) (V m c main_v4) (V m c main_v7) (V m c main_v8) (y 0) (y 1))

theorem arr10 : (dats m 0 c).arrAt 10 cfg0.N = resScale m c := by
  refine Dat.arrAt_eq_of_covers _ 10 _ (by decide +kernel) fun t hf y => ?_
  have h0 := (index10 t).1
  have h1 := (index10 t).2
  blk_simp
  rw [after0_10, iblk0, iblk1, iblk2, iblk3, iblk4, iblk5]
  have e : (win0_10.blk t).view.emb y = y := by
    funext a; apply Fin.ext; fin_cases a
    · blk_simp [h0]
    · blk_simp [h1]
  rw [e]
  unfold resScale
  exact (congrArg (out0_10 (V m c main_v5) (V m c main_v6) (V m c main_arg2) (V m c main_v4) (V m c main_v7) (V m c main_v8)) (ix2_eta y).symm).trans (out10_row (V m c main_v5) (V m c main_v6) (V m c main_arg2) (V m c main_v4) (V m c main_v7) (V m c main_v8) (y 0) (y 1))

/-- The run: the results, and the arguments as they were. -/
theorem refMain (ρ : Dev nD → PrngReg) : θ_run defs (onTc (τ := τ) (main (F := Ideal))) ⟨m, fun _ => 0, ρ⟩ (fun r => ∀ c : Dev nD,
      r.2.mem ((c.tc : Thread nD τ).loc main_v9_0) = resQ m c
      ∧ r.2.mem ((c.tc : Thread nD τ).loc main_v9_1) = resKV m c
      ∧ r.2.mem ((c.tc : Thread nD τ).loc main_v9_2) = resPE m c
      ∧ r.2.mem ((c.tc : Thread nD τ).loc main_v9_3) = resCode m c
      ∧ r.2.mem ((c.tc : Thread nD τ).loc main_v9_4) = resScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h6, h7, h8, h9, h10, h⟩ := h c
    exact ⟨h6.trans (arr6 m c), h7.trans (arr7 m c), h8.trans (arr8 m c), h9.trans (arr9 m c), h10.trans (arr10 m c), h⟩)
    (Cert.ReferenceIdeal.Value.run_blocks m ρ)

end Cert.ReferenceIdeal.Hand

end
-- ==== Proof.Equal.lean ====
/-
The kernel and the reference leave the same five arrays, where the weights of the norm are finite.
-/
module

public import proofs.«01_k».proof.Defs
public import proofs.«01_k».proof.Proof.Operands
public import proofs.«01_k».proof.Proof.RowsAgree
public import proofs.«01_k».proof.Proof.RefArrays

@[expose] public section

set_option maxHeartbeats 1000000

noncomputable section

namespace Cert.Equal

open Idealize.ShloMosaic Idealize.ShloMosaic.TcCoe Idealize.ShloMosaic.Tactic Idealize.SL.Sem
open Cert.Math Cert.Operands

/-- The side conditions of the printed precondition. -/
theorem preFacts : Cert.Pre_gamma_finite.Facts where
  bitsLt_bf16_f32 := by decide
  bcast_S_S3584 := by decide

attribute [local instance] preFacts

/-- The precondition, read at one weight of the norm. -/
theorem finite_pre (a0 a1 a2 a3 a4 a5) (h : Cert.Pre_gamma_finite.fn (F := Ideal) a0 a1 a2 a3 a4 a5 = fun _ => 1#1) (j : Fin 3584) :
    ∃ b : ℝ, |b| ≤ 2 ^ 128 ∧ a1 (ix1 j) = (b : EReal) := by
  refine finite_of _ ?_
  have h' := congrFun h (ix1 j)
  simp only [Cert.Pre_gamma_finite.fn] at h'
  have e : BitVec.ofBool (decide (max (a1 (ix1 j)) (-(a1 (ix1 j))) ≤ Ideal.ofBits .f32 0x7F7F0000#32)) = 1#1 := h'
  by_contra hn
  rw [decide_eq_false hn] at e
  exact absurd e (by decide)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The six arguments are the same at core `c`. -/
def Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m' c}

theorem hRow_eq (h : Same m m' c) (r : Fin 6144) : KernelIdeal.Hand.hRow m c r = ReferenceIdeal.Hand.hRow m' c r := by
  funext j
  exact ((k_hidden m c r j).trans (congrFun h.1 _).symm).trans (r_hidden m' c r j).symm

theorem gRow_eq (h : Same m m' c) : KernelIdeal.Hand.gRow m c = ReferenceIdeal.Hand.gRow m' c := by
  funext j
  exact ((k_gamma m c j).trans (congrFun h.2.1 _).symm).trans (r_gamma m' c j).symm

theorem gq_eq (h : Same m m' c) : (fun j : Fin 1536 => KernelIdeal.Gen.V m c KernelIdeal.main_v2 (ix2 0 j))
    = fun j : Fin 1536 => ReferenceIdeal.Gen.V m' c ReferenceIdeal.main_v7 (ix2 0 j) := by
  funext j
  exact ((k_q m c j).trans (congrFun h.2.2.2.2.1 _).symm).trans (r_q m' c j).symm

theorem gkv_eq (h : Same m m' c) : (fun j : Fin 512 => KernelIdeal.Gen.V m c KernelIdeal.main_v3 (ix2 0 j))
    = fun j : Fin 512 => ReferenceIdeal.Gen.V m' c ReferenceIdeal.main_v8 (ix2 0 j) := by
  funext j
  exact ((k_kv m c j).trans (congrFun h.2.2.2.2.2 _).symm).trans (r_kv m' c j).symm

theorem wMat_eq (h : Same m m' c) : KernelIdeal.Hand.wMat m c = ReferenceIdeal.Hand.wMat m' c := by
  funext n k
  refine congrArg₂ (fun a b : EReal => a * b) ?_ ?_
  · exact (congrFun (KernelIdeal.Gen.V_main_arg2 m c) (ix2 n k)).trans
      ((congrFun h.2.2.1 (ix2 n k)).symm.trans (congrFun (ReferenceIdeal.Gen.V_main_arg2 m' c) (ix2 n k)).symm)
  · refine (congrFun (KernelIdeal.Gen.V_main_arg3 m c) _).trans ?_
    exact (congrFun h.2.2.2.1 _).symm.trans (r_scale m' c n k).symm

theorem gRow_finite (hp : Cert.Pre_KernelIdeal_gamma_finite m) : Finite (KernelIdeal.Hand.gRow m c) := by
  intro j
  obtain ⟨b, hb, e⟩ := finite_pre _ _ _ _ _ _ (hp c) j
  exact ⟨b, hb, (k_gamma m c j).trans e⟩

theorem deq_eq (h : Same m m' c) (hp : Cert.Pre_KernelIdeal_gamma_finite m) (r : Fin 6144) :
    pDeq (ReferenceIdeal.Hand.hRow m' c r) (ReferenceIdeal.Hand.gRow m' c) = rowDeq (KernelIdeal.Hand.hRow m c r) (KernelIdeal.Hand.gRow m c) := by
  rw [rowDeq_eq _ (gRow_finite hp), hRow_eq h, gRow_eq h]

theorem code_eq (h : Same m m' c) (hp : Cert.Pre_KernelIdeal_gamma_finite m) (r : Fin 6144) (j : Fin 3584) :
    pCode (ReferenceIdeal.Hand.hRow m' c r) (ReferenceIdeal.Hand.gRow m' c) j = rowCode (KernelIdeal.Hand.hRow m c r) (KernelIdeal.Hand.gRow m c) j := by
  rw [rowCode_eq _ (gRow_finite hp), hRow_eq h, gRow_eq h]

theorem step_eq (h : Same m m' c) (hp : Cert.Pre_KernelIdeal_gamma_finite m) (r : Fin 6144) (g : Fin 28) :
    pScale (ReferenceIdeal.Hand.hRow m' c r) (ReferenceIdeal.Hand.gRow m' c) g = rowScale (KernelIdeal.Hand.hRow m c r) (KernelIdeal.Hand.gRow m c) g := by
  rw [rowScale_eq _ (gRow_finite hp), hRow_eq h, gRow_eq h]

theorem q_eq (h : Same m m' c) (hp : Cert.Pre_KernelIdeal_gamma_finite m) (r : Fin 6144) (j : Fin 1536) :
    rowQ (pDeq (ReferenceIdeal.Hand.hRow m' c r) (ReferenceIdeal.Hand.gRow m' c)) (ReferenceIdeal.Hand.wMat m' c) (fun j : Fin 1536 => ReferenceIdeal.Gen.V m' c ReferenceIdeal.main_v7 (ix2 0 j)) j
      = rowQ (rowDeq (KernelIdeal.Hand.hRow m c r) (KernelIdeal.Hand.gRow m c)) (KernelIdeal.Hand.wMat m c) (fun j : Fin 1536 => KernelIdeal.Gen.V m c KernelIdeal.main_v2 (ix2 0 j)) j := by
  rw [deq_eq h hp, wMat_eq h, gq_eq h]

theorem kv_eq (h : Same m m' c) (hp : Cert.Pre_KernelIdeal_gamma_finite m) (r : Fin 6144) (j : Fin 512) :
    rowKV (pDeq (ReferenceIdeal.Hand.hRow m' c r) (ReferenceIdeal.Hand.gRow m' c)) (ReferenceIdeal.Hand.wMat m' c) (fun j : Fin 512 => ReferenceIdeal.Gen.V m' c ReferenceIdeal.main_v8 (ix2 0 j)) j
      = rowKV (rowDeq (KernelIdeal.Hand.hRow m c r) (KernelIdeal.Hand.gRow m c)) (KernelIdeal.Hand.wMat m c) (fun j : Fin 512 => KernelIdeal.Gen.V m c KernelIdeal.main_v3 (ix2 0 j)) j := by
  rw [deq_eq h hp, wMat_eq h, gkv_eq h]

theorem pe_eq (h : Same m m' c) (hp : Cert.Pre_KernelIdeal_gamma_finite m) (r : Fin 6144) (j : Fin 64) :
    rowPE (pDeq (ReferenceIdeal.Hand.hRow m' c r) (ReferenceIdeal.Hand.gRow m' c)) (ReferenceIdeal.Hand.wMat m' c) j
      = rowPE (rowDeq (KernelIdeal.Hand.hRow m c r) (KernelIdeal.Hand.gRow m c)) (KernelIdeal.Hand.wMat m c) j := by
  rw [deq_eq h hp, wMat_eq h]

theorem resQ_eq (h : Same m m' c) (hp : Cert.Pre_KernelIdeal_gamma_finite m) : ReferenceIdeal.Hand.resQ m' c = KernelIdeal.Hand.resQ m c :=
  funext fun y => q_eq h hp (y 0) (y 1)

theorem resKV_eq (h : Same m m' c) (hp : Cert.Pre_KernelIdeal_gamma_finite m) : ReferenceIdeal.Hand.resKV m' c = KernelIdeal.Hand.resKV m c :=
  funext fun y => kv_eq h hp (y 0) (y 1)

theorem resPE_eq (h : Same m m' c) (hp : Cert.Pre_KernelIdeal_gamma_finite m) : ReferenceIdeal.Hand.resPE m' c = KernelIdeal.Hand.resPE m c :=
  funext fun y => pe_eq h hp (y 0) (y 1)

theorem resCode_eq (h : Same m m' c) (hp : Cert.Pre_KernelIdeal_gamma_finite m) : ReferenceIdeal.Hand.resCode m' c = KernelIdeal.Hand.resCode m c :=
  funext fun y => code_eq h hp (y 0) (y 1)

theorem resScale_eq (h : Same m m' c) (hp : Cert.Pre_KernelIdeal_gamma_finite m) : ReferenceIdeal.Hand.resScale m' c = KernelIdeal.Hand.resScale m c :=
  funext fun y => step_eq h hp (y 0) (y 1)

/-- The value claim. -/
theorem algebraic : @Cert.algebraic_KernelIdeal_ReferenceIdeal_pre_gamma_finite KernelIdeal.Gen.facts ReferenceIdeal.Gen.facts preFacts := by
  intro m g m' g' hp hs
  refine ⟨KernelIdeal.Hand.resQ m, KernelIdeal.Hand.resKV m, KernelIdeal.Hand.resPE m, KernelIdeal.Hand.resCode m, KernelIdeal.Hand.resScale m,
    KernelIdeal.Hand.valMain m g, (θ_run ReferenceIdeal.defs _ _).mono (fun r h c => ?_) (ReferenceIdeal.Hand.refMain m' g')⟩
  obtain ⟨h0, h1, h2, h3, h4, h5⟩ := h c
  have e : Same m m' c := hs c
  exact ⟨h0.trans (resQ_eq e hp), h1.trans (resKV_eq e hp), h2.trans (resPE_eq e hp), h3.trans (resCode_eq e hp), h4.trans (resScale_eq e hp), h5⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.IdealFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Equal.preFacts,
    fun m ρ _ => Cert.Kernel.Hand.quiet m ρ,
    fun m ρ _ => Cert.KernelIdeal.Hand.quiet m ρ,
    fun m ρ _ => Cert.KernelIdeal.Hand.quiet m ρ,
    fun m ρ _ => Cert.ReferenceIdeal.Gen.frame m ρ,
    fun m ρ _ => Cert.ReferenceIdeal.Gen.frame m ρ,
    trivial,
    Cert.Equal.algebraic⟩

end Cert.Proof

end
